-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_no_bias [hPre_in_range_no_bias : Cert.Pre_in_range_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_no_bias [hPre_in_range_no_bias : Cert.Pre_in_range_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_no_bias [hKernelIdeal : Cert.KernelIdeal.Facts] [hPre_in_range_no_bias : Cert.Pre_in_range_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_no_bias [hReferenceIdeal : Cert.ReferenceIdeal.Facts] [hPre_in_range_no_bias : Cert.Pre_in_range_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_no_bias [hKernelIdeal : Cert.KernelIdeal.Facts] [hReferenceIdeal : Cert.ReferenceIdeal.Facts] [hPre_in_range_no_bias : Cert.Pre_in_range_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_no_bias : Cert.Pre_in_range_no_bias.Facts),
    quiescent_Kernel (hKernel := hKernel) (hPre_in_range := hPre_in_range)
    ∧ quiescent_KernelIdeal (hKernelIdeal := hKernelIdeal) (hPre_in_range := hPre_in_range)
    ∧ quiescent_KernelIdeal_pre_in_range_no_bias (hKernelIdeal := hKernelIdeal) (hPre_in_range_no_bias := hPre_in_range_no_bias)
    ∧ quiescent_ReferenceIdeal (hReferenceIdeal := hReferenceIdeal)
    ∧ quiescent_ReferenceIdeal_pre_in_range_no_bias (hReferenceIdeal := hReferenceIdeal) (hPre_in_range_no_bias := hPre_in_range_no_bias)
    ∧ preserves_Kernel_KernelIdeal
    ∧ algebraic_KernelIdeal_ReferenceIdeal_pre_in_range_no_bias (hKernelIdeal := hKernelIdeal) (hReferenceIdeal := hReferenceIdeal) (hPre_in_range_no_bias := hPre_in_range_no_bias)
-- ==== Pre_in_range.lean ====
abbrev S1x2048 : Shape := ⟨2, ![1, 2048]⟩
abbrev S50000x1024 : Shape := ⟨2, ![50000, 1024]⟩
abbrev S1024x50000 : Shape := ⟨2, ![1024, 50000]⟩
abbrev S50000 : Shape := ⟨1, ![50000]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel

variable [Facts]

def fn {F : FTy → Type} [FloatOps F] (main_arg0 : IVec S1x2048 32) (main_arg1 : FVec F S50000x1024 .f32) (main_arg2 : FVec F S1024x50000 .f32) (main_arg3 : FVec F S50000 .f32) : IVec S_ 1 :=
  let main_c : IVec S_ 32 := constantI S_ 32 0#32
  let main_v0 : IVec S1x2048 32 := broadcastInDim S1x2048 ![] bcast_S_S1x2048 main_c
  let main_v1 : IVec S1x2048 1 := cmpi .sge main_arg0 main_v0
  let main_c_0 : IVec S_ 32 := constantI S_ 32 50000#32
  let main_v2 : IVec S1x2048 32 := broadcastInDim S1x2048 ![] bcast_S_S1x2048 main_c_0
  let main_v3 : IVec S1x2048 1 := cmpi .slt main_arg0 main_v2
  let main_v4 : IVec S1x2048 1 := andi main_v1 main_v3
  let main_c_1 : IVec S_ 1 := constantI S_ 1 1#1
  let main_v5 : IVec S_ 1 := (fun x v => Host.reduce IntOp.andi x v reducesTo_S1x2048_S_d0_1 h_S_) main_v4 main_c_1
  main_v5
-- ==== Pre_in_range_no_bias.lean ====
abbrev S1x2048 : Shape := ⟨2, ![1, 2048]⟩
abbrev S50000x1024 : Shape := ⟨2, ![50000, 1024]⟩
abbrev S1024x50000 : Shape := ⟨2, ![1024, 50000]⟩
abbrev S50000 : Shape := ⟨1, ![50000]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S50000 : S_.BroadcastsInDim S50000 (![] : Fin 0 → Fin S50000.rank)
  reducesTo_S50000_S_d0 : S50000.ReducesTo [0] S_

variable [Facts]

def fn {F : FTy → Type} [FloatOps F] (main_arg0 : IVec S1x2048 32) (main_arg1 : FVec F S50000x1024 .f32) (main_arg2 : FVec F S1024x50000 .f32) (main_arg3 : FVec F S50000 .f32) : IVec S_ 1 :=
  let main_c : IVec S_ 32 := constantI S_ 32 0#32
  let main_v0 : IVec S1x2048 32 := broadcastInDim S1x2048 ![] bcast_S_S1x2048 main_c
  let main_v1 : IVec S1x2048 1 := cmpi .sge main_arg0 main_v0
  let main_c_0 : IVec S_ 32 := constantI S_ 32 50000#32
  let main_v2 : IVec S1x2048 32 := broadcastInDim S1x2048 ![] bcast_S_S1x2048 main_c_0
  let main_v3 : IVec S1x2048 1 := cmpi .slt main_arg0 main_v2
  let main_v4 : IVec S1x2048 1 := andi main_v1 main_v3
  let main_c_1 : IVec S_ 1 := constantI S_ 1 1#1
  let main_v5 : IVec S_ 1 := (fun x v => Host.reduce IntOp.andi x v reducesTo_S1x2048_S_d0_1 h_S_) main_v4 main_c_1
  let main_cst : FVec F S_ .f32 := constant S_ .f32 0x00000000#32
  let main_v6 : FVec F S50000 .f32 := broadcastInDim S50000 ![] bcast_S_S50000 main_cst
  let main_v7 : IVec S50000 1 := cmpf .oeq main_arg3 main_v6
  let main_c_2 : IVec S_ 1 := constantI S_ 1 1#1
  let main_v8 : IVec S_ 1 := (fun x v => Host.reduce IntOp.andi x v reducesTo_S50000_S_d0 h_S_) main_v7 main_c_2
  let main_v9 : IVec S_ 1 := andi main_v5 main_v8
  main_v9
-- ==== Kernel.lean ====
abbrev S1x2048 : Shape := ⟨2, ![1, 2048]⟩
abbrev S50000x1024 : Shape := ⟨2, ![50000, 1024]⟩
abbrev S1024x50000 : Shape := ⟨2, ![1024, 50000]⟩
abbrev S50000 : Shape := ⟨1, ![50000]⟩
abbrev S2048 : Shape := ⟨1, ![2048]⟩
abbrev S2048x1024 : Shape := ⟨2, ![2048, 1024]⟩
abbrev S2048x50000 : Shape := ⟨2, ![2048, 50000]⟩
abbrev S1024x1024 : Shape := ⟨2, ![1024, 1024]⟩
abbrev S_ : Shape := ⟨0, ![]⟩
abbrev S1 : Shape := ⟨1, ![1]⟩
abbrev S1x1024 : Shape := ⟨2, ![1, 1024]⟩
abbrev S1x2048x1024 : Shape := ⟨3, ![1, 2048, 1024]⟩
abbrev S1x2048x50000 : Shape := ⟨3, ![1, 2048, 50000]⟩

abbrev nBuf : Space → Nat
  | .hbm => 8
  | .vmem => 6
  | .smem => 1
  | _ => 0

abbrev bufTy : (tb : Table) → Fin (tcTables nBuf tb) → BufTy
  | .hbm, ⟨0, _⟩ => ⟨S1x2048, .i32⟩
  | .hbm, ⟨1, _⟩ => ⟨S50000x1024, .f32⟩
  | .hbm, ⟨2, _⟩ => ⟨S1024x50000, .f32⟩
  | .hbm, ⟨3, _⟩ => ⟨S50000, .f32⟩
  | .hbm, ⟨4, _⟩ => ⟨S2048x1024, .f32⟩
  | .hbm, ⟨5, _⟩ => ⟨S2048x50000, .f32⟩
  | .hbm, ⟨6, _⟩ => ⟨S1x2048x1024, .f32⟩
  | .hbm, ⟨7, _⟩ => ⟨S1x2048x50000, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .bf16⟩
  | .local _ .smem, ⟨0, _⟩ => ⟨S2048, .i32⟩
  | _, _ => ⟨S1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![49], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c2048_i32 : BitVec 32 := 2048#32
  let v11 : BitVec 32 := Scalar.addi c0_i32_7 c2048_i32
  let c1_i32 : BitVec 32 := 1#32
  ⟨c0_i32_7, v11, c1_i32⟩
def k0_off1 (k0_t1 : Fin k0_t1_loop.trips) : Fin 1 → Nat :=
  let c0_i32_7 : BitVec 32 := 0#32
  let c1_i32 : BitVec 32 := 1#32
  let arg10 : BitVec 32 := Scf.iv c0_i32_7 c1_i32 k0_t1
  let v18 : Index := Scalar.indexCast arg10
  ![v18.toNat]
def k0_off2 (k0_t1 : Fin k0_t1_loop.trips) : Fin 2 → Nat :=
  let c0_i32_7 : BitVec 32 := 0#32
  let c1_i32 : BitVec 32 := 1#32
  let arg10 : BitVec 32 := Scf.iv c0_i32_7 c1_i32 k0_t1
  let c0_i32_17 : BitVec 32 := 0#32
  ![arg10.toNat, 0]
def k0_off3 (v19 : BitVec 32) : Fin 2 → Nat :=
  let c0_i32_18 : BitVec 32 := 0#32
  ![v19.toNat, 0]

def k0_chk1 (i : grid0.Coords) (v19 : BitVec 32) : Prop :=
  (∀ (k0_h1 : k0_cond1 i = 1#1), ∀ a, (k0_off3 v19) a + S1x1024.size a ≤ S50000x1024.size a)
theorem k0_off3_inb : ∀ (i : grid0.Coords) (v19 : BitVec 32) (k0_hw1 : k0_chk1 i v19), ∀ (k0_h1 : k0_cond1 i = 1#1), ∀ a, (k0_off3 v19) a + S1x1024.size a ≤ S50000x1024.size a := fun i v19 k0_hw1 k0_h1 => k0_hw1 k0_h1

@[reducible] def k0_t2_loop : Scf.Loop 32 :=
  let c0_i32_9 : BitVec 32 := 0#32
  let c2048_i32_10 : BitVec 32 := 2048#32
  let v12 : BitVec 32 := Scalar.addi c0_i32_9 c2048_i32_10
  let c1_i32_11 : BitVec 32 := 1#32
  ⟨c0_i32_9, v12, c1_i32_11⟩
def k0_off4 (k0_t2 : Fin k0_t2_loop.trips) : Fin 2 → Nat :=
  let c0_i32_9 : BitVec 32 := 0#32
  let c1_i32_11 : BitVec 32 := 1#32
  let arg10 : BitVec 32 := Scf.iv c0_i32_9 c1_i32_11 k0_t2
  let c0_i32_17 : BitVec 32 := 0#32
  ![arg10.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x2048 : Shape := ⟨2, ![1, 2048]⟩
abbrev S50000x1024 : Shape := ⟨2, ![50000, 1024]⟩
abbrev S1024x50000 : Shape := ⟨2, ![1024, 50000]⟩
abbrev S50000 : Shape := ⟨1, ![50000]⟩
abbrev S_ : Shape := ⟨0, ![]⟩
abbrev S1x2048x1 : Shape := ⟨3, ![1, 2048, 1]⟩
abbrev S1 : Shape := ⟨1, ![1]⟩
abbrev S1x1x1 : Shape := ⟨3, ![1, 1, 1]⟩
abbrev S1x2048x1024 : Shape := ⟨3, ![1, 2048, 1024]⟩
abbrev S1x2048x50000 : Shape := ⟨3, ![1, 2048, 50000]⟩
abbrev S1x1x50000 : Shape := ⟨3, ![1, 1, 50000]⟩

abbrev nBuf : Space → Nat
  | .hbm => 31
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S50000x1024, .f32⟩
  | .hbm, ⟨2, _⟩ => ⟨S1024x50000, .f32⟩
  | .hbm, ⟨3, _⟩ => ⟨S50000, .f32⟩
  | .hbm, ⟨4, _⟩ => ⟨S_, .i32⟩
  | .hbm, ⟨5, _⟩ => ⟨S1x2048, .i32⟩
  | .hbm, ⟨6, _⟩ => ⟨S1x2048, .i1⟩
  | .hbm, ⟨7, _⟩ => ⟨S_, .i32⟩
  | .hbm, ⟨8, _⟩ => ⟨S1x2048, .i32⟩
  | .hbm, ⟨9, _⟩ => ⟨S1x2048, .i32⟩
  | .hbm, ⟨10, _⟩ => ⟨S1x2048, .i32⟩
  | .hbm, ⟨11, _⟩ => ⟨S1x2048x1, .i32⟩
  | .hbm, ⟨12, _⟩ => ⟨S1, .i32⟩
  | .hbm, ⟨13, _⟩ => ⟨S_, .i32⟩
  | .hbm, ⟨14, _⟩ => ⟨S1x2048x1, .i32⟩
  | .hbm, ⟨15, _⟩ => ⟨S1x2048x1, .i1⟩
  | .hbm, ⟨16, _⟩ => ⟨S1x1x1, .i32⟩
  | .hbm, ⟨17, _⟩ => ⟨S1x2048x1, .i32⟩
  | .hbm, ⟨18, _⟩ => ⟨S1x2048x1, .i1⟩
  | .hbm, ⟨19, _⟩ => ⟨S1x2048x1, .i1⟩
  | .hbm, ⟨20, _⟩ => ⟨S_, .i1⟩
  | .hbm, ⟨21, _⟩ => ⟨S1x2048, .i1⟩
  | .hbm, ⟨22, _⟩ => ⟨S1x2048x1024, .f32⟩
  | .hbm, ⟨23, _⟩ => ⟨S1x2048x1024, .i1⟩
  | .hbm, ⟨24, _⟩ => ⟨S_, .f32⟩
  | .hbm, ⟨25, _⟩ => ⟨S1x2048x1024, .f32⟩
  | .hbm, ⟨26, _⟩ => ⟨S1x2048x1024, .f32⟩
  | .hbm, ⟨27, _⟩ => ⟨S1x2048x50000, .f32⟩
  | .hbm, ⟨28, _⟩ => ⟨S1x1x50000, .f32⟩
  | .hbm, ⟨29, _⟩ => ⟨S1x2048x50000, .f32⟩
  | .hbm, ⟨30, _⟩ => ⟨S1x2048x50000, .f32⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Range.lean ====
/- The preconditions read back: every index word names a row of the table, and every bias word is zero. -/
module

public import proofs.«01_k».proof.Proof.Gen.Pre_in_range
public import proofs.«01_k».proof.Proof.Gen.Pre_in_range_no_bias
public import Idealize.ShloMosaic.Lib.ReduceAll

@[expose] public section

namespace Cert.Range

open Idealize.ShloMosaic

/-- A word between 0 and 50000, read signed, lies below 50000 read unsigned. -/
theorem lt_of_bounds (v : BitVec 32) (e : IntOp.andi (IntOp.cmpi .sge v 0#32) (IntOp.cmpi .slt v 50000#32) = 1#1) :
    v.toNat < 50000 := by
  obtain ⟨hge, hlt⟩ := IntOp.andi_eq_one.1 e
  have ofBool_eq_one (p : Bool) : (BitVec.ofBool p = 1#1) ↔ p = true := by cases p <;> decide
  simp only [IntOp.cmpi, ofBool_eq_one, BitVec.sle, BitVec.slt, decide_eq_true_eq, BitVec.toInt, BitVec.toNat_ofNat] at hge hlt
  omega

instance : Subsingleton Pre_in_range.S_.Idx := ⟨fun a b => funext fun k => k.elim0⟩
instance : Subsingleton Pre_in_range_no_bias.S_.Idx := ⟨fun a b => funext fun k => k.elim0⟩

/-- The one index of a scalar. -/
def i0 : (⟨0, ![]⟩ : Shape).Idx := fun k => k.elim0

variable {F : FTy → Type} [FloatOps F]

theorem in_range (ix : IVec Pre_in_range.S1x2048 32) (T : FVec F Pre_in_range.S50000x1024 .f32) (W : FVec F Pre_in_range.S1024x50000 .f32)
    (b : FVec F Pre_in_range.S50000 .f32) (h : Pre_in_range.fn (F := F) ix T W b = fun _ => 1#1) (i : Pre_in_range.S1x2048.Idx) :
    (ix i).toNat < 50000 := by
  have e := congrFun h i0
  unfold Pre_in_range.fn at e
  exact lt_of_bounds _ (Host.reduce_andi_all _ _ _ _ i0 e i)

theorem in_range_no_bias (ix : IVec Pre_in_range_no_bias.S1x2048 32) (T : FVec F Pre_in_range_no_bias.S50000x1024 .f32)
    (W : FVec F Pre_in_range_no_bias.S1024x50000 .f32) (b : FVec F Pre_in_range_no_bias.S50000 .f32)
    (h : Pre_in_range_no_bias.fn (F := F) ix T W b = fun _ => 1#1) :
    (∀ i, (ix i).toNat < 50000) ∧ ∀ j, FloatOps.cmpf .oeq (b j) (FloatOps.ofBits .f32 0x00000000#32) = 1#1 := by
  have e := congrFun h i0
  unfold Pre_in_range_no_bias.fn at e
  obtain ⟨e1, e2⟩ := IntOp.andi_eq_one.1 e
  exact ⟨fun i => lt_of_bounds _ (Host.reduce_andi_all _ _ _ _ i0 e1 i), fun j => Host.reduce_andi_all _ _ _ _ i0 e2 j⟩

end Cert.Range

end
-- ==== Proof.Kernel.Entry.lean ====
/- The flat index list, word by word: the argument's words in order. -/
module

public import proofs.«01_k».proof.Proof.Kernel.Frame

@[expose] public section

set_option maxRecDepth 16384

noncomputable section

namespace Cert.Kernel.Gather

open Cert.Kernel Cert.Kernel.Gen
open Idealize.ShloMosaic TcCoe
open Idealize.ShloMosaic.ValueIdx (ix1 ix2)

variable {F : FTy → Type} [FloatOps F]
variable (m : (ℓ : Loc nD τ sig) → Buf (Elt F) ℓ)

theorem entry_words (c : Dev nD) :
    V m c main_v0 = shapeCast S2048 (m ((c : Thread nD τ).loc main_arg0)) shapeCasts_S1x2048_S2048 := by
  show (StableHlo.reshape (τ := τ) (Val := Elt F) main_arg0 main_v0 rfl shapeCasts_S1x2048_S2048).result (fun b => m (c, b)) (Proc.devRef .tc main_v0) = _
  exact StableHlo.reshape_result' _ _ _ _ _

theorem inRange_entry (h : ∀ c : Dev nD, ∀ i, (m ((c : Thread nD τ).loc main_arg0) i : BitVec 32).toNat < 50000) (c : Dev nD) :
    InRange (V m c main_v0) := fun t => by
  rw [entry_words]
  exact h c _

end Cert.Kernel.Gather

end
-- ==== Proof.KernelIdeal.Gather.lean ====
/- The gather of the kernel's first grid point: 2048 row copies on one semaphore cell, every one started before the
   first is waited for. Each copy takes the table row that its index word names into the row of the scratch with the
   copy's own number. The copies are a batch: a loop that issues them, a loop that waits as often. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.FrameBody
public import Idealize.ShloMosaic.Lib.Batch
public import Idealize.ShloMosaic.Lib.Ring
public import Idealize.ShloMosaic.Lib.ValueIdx
public import Idealize.ShloMosaic.Lib.Tactic

@[expose] public section

set_option maxRecDepth 16384

noncomputable section

namespace Cert.KernelIdeal.Gather

open Cert.KernelIdeal Cert.KernelIdeal.Gen
open Idealize.ShloMosaic TcCoe
open Idealize.ShloMosaic.ValueIdx (ix1 ix2)
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA
open Idealize.ShloMosaic.Tactic

variable {F : FTy → Type} [FloatOps F]

/-- The algebra of the whole proof. -/
abbrev U₀ : Type := Pipeline.UD sig nD τ
local notation "𝕄" => MT nD τ sig Unit (Elt F) ℕ U₀ ℕ

/-- The number of row copies. -/
abbrev n₀ : ℕ := k0_t1_loop.trips

theorem n₀_eq : n₀ = 2048 := by decide +kernel
theorem trips2_eq : k0_t2_loop.trips = 2048 := by decide +kernel

/-- One row's amount on the cell. -/
abbrev NN : ℕ := RefSig.tileCredit S1x1024 .f32

/-- The index word read by copy `t`, off the index table's contents. -/
def word (X : S2048.Idx → Elt F .i32) (t : Fin n₀) : BitVec 32 :=
  X (ix1 ⟨t.val, lt_of_lt_of_eq t.isLt n₀_eq⟩)

/-- Every index word names a row of the table. -/
def InRange (X : S2048.Idx → Elt F .i32) : Prop := ∀ t, (word X t).toNat < 50000

theorem off1_eq : ∀ t : Fin n₀, k0_off1 t = ![t.val] := by decide +kernel
theorem off2_eq : ∀ t : Fin n₀, k0_off2 t = ![t.val, 0] := by decide +kernel

theorem off3_eq (v : BitVec 32) : k0_off3 v = ![v.toNat, 0] := by
  unfold k0_off3; rfl

theorem chk_of_lt (i : grid0.Coords) {v : BitVec 32} (h : v.toNat < 50000) : k0_chk1 i v := by
  intro _ a
  rw [off3_eq]
  fin_cases a
  · show v.toNat + 1 ≤ 50000; omega
  · show 0 + 1024 ≤ 1024; omega

/-! ## Rows and deliveries -/

section Rows

variable (c : Dev nD) (i : grid0.Coords) (h1 : k0_cond1 i = 1#1)
  (X : S2048.Idx → Elt F .i32) (hX : InRange X)
  (T : S50000x1024.Idx → Elt F .f32) (f₀ : S2048x1024.Idx → Elt F .f32)

/-- Row `t` of the scratch, as copy `t` names it; -/
def dstM (t : Fin n₀) : Memref sig .tc .vmem S1x1024 .f32 :=
  (Memref.whole cc0_scratch0).slice (Rect.unit (s := S2048x1024) (k0_off2 t) S1x1024.size (k0_off2_inb i t h1)) (fun _ => rfl)

/-- the table row at an index word in range. -/
def srcM (v : BitVec 32) (hv : k0_chk1 i v) : Memref sig .tc .hbm S1x1024 .f32 :=
  (Memref.whole main_arg1).slice (Rect.unit (s := S50000x1024) (k0_off3 v) S1x1024.size (k0_off3_inb i v hv h1)) (fun _ => rfl)

/-- The table row that copy `t` reads. -/
def srcT (t : Fin n₀) : Memref sig .tc .hbm S1x1024 .f32 := srcM i h1 (word X t) (chk_of_lt i (hX t))

/-- Row `t` of the scratch at given contents of the whole scratch, -/
def rowAt (f : S2048x1024.Idx → Elt F .f32) (t : Fin n₀) : sProp 𝕄 :=
  iprop((dstM i h1 t).view.loc c ↦[(dstM i h1 t).view.set]{fullShare} f)

/-- copy `t`'s read share of the table row it names, -/
def tokAt (t : Fin n₀) : sProp 𝕄 :=
  iprop((srcT i h1 X hX t).view.loc c ↦[(srcT i h1 X hX t).view.set]{Transfers.shareTokN fullShare t.val} T)

/-- the row as the copy leaves it. -/
def landed (t : Fin n₀) : S2048x1024.Idx → Elt F .f32 :=
  (dstM i h1 t).view.write (Elt F) f₀ ((srcT i h1 X hX t).view.read (Elt F) T) Finset.univ

/-- What copy `t` delivers: the row written, the read share back. -/
def deliv (t : Fin n₀) : sProp 𝕄 := iprop(rowAt c i h1 (landed i h1 X hX T f₀ t) t ∗ tokAt c i h1 X hX T t)

/-- The batch with `k` copies issued and `u` units consumed. -/
abbrev batch (k u : ℕ) : sProp 𝕄 :=
  Transfers.Batch (countersEmb (U := U₀)) (c : Thread nD τ) (SemLoc.dma cc0_scratch2.sem) () NN
    (deliv c i h1 X hX T f₀) k u

/-- Before trip `k` of the issuing loop. -/
def issueInv (k : ℕ) (_ : Unit) : sProp 𝕄 :=
  iprop(((Memref.whole main_v0).view.loc c ↦{fullShare.right} X)
    ∗ batch c i h1 X hX T f₀ k 0
    ∗ bigSep (Ring.rangeSet n₀ k n₀) (rowAt c i h1 f₀)
    ∗ bigSep (Ring.rangeSet n₀ k n₀) (tokAt c i h1 X hX T))

/-- Before trip `k` of the waiting loop. -/
def drainInv (k : ℕ) (_ : Unit) : sProp 𝕄 :=
  iprop(⌜k ≤ n₀⌝ ∗ (∃ W, owes (c : Thread nD τ) 0 W) ∗ batch c i h1 X hX T f₀ n₀ (k * NN))

end Rows

section Loops

variable (c : Dev nD) (i : grid0.Coords) (h1 : k0_cond1 i = 1#1)
  (X : S2048.Idx → Elt F .i32) (hX : InRange X)
  (T : S50000x1024.Idx → Elt F .f32) (f₀ : S2048x1024.Idx → Elt F .f32)
  (arg3 : Memref sig .tc .vmem S1024x1024 .f32) (harg3 : arg3.IsWhole)
  (arg5 : Memref sig .tc .vmem S2048x1024 .f32) (harg5 : arg5.IsWhole)

/-- The issuing loop's region on the body's operands, -/
abbrev issueBody :=
  k0_t1_body (F := F) i (Memref.whole main_v0) (Memref.isWhole_whole _) (Memref.whole main_arg1) (Memref.isWhole_whole _)
    arg3 harg3 (Memref.whole main_v1_0) (Memref.isWhole_whole _) arg5 harg5 (Memref.whole cc0_scratch0) (Memref.isWhole_whole _)
    (Memref.whole cc0_scratch1) (Memref.isWhole_whole _) cc0_scratch2 cc0_scratch3 h1

/-- the waiting loop's. -/
abbrev drainBody :=
  k0_t2_body (F := F) i (Memref.whole main_v0) (Memref.isWhole_whole _) (Memref.whole main_arg1) (Memref.isWhole_whole _)
    arg3 harg3 (Memref.whole main_v1_0) (Memref.isWhole_whole _) arg5 harg5 (Memref.whole cc0_scratch0) (Memref.isWhole_whole _)
    (Memref.whole cc0_scratch1) (Memref.isWhole_whole _) cc0_scratch2 cc0_scratch3 h1

theorem amount_dst (t : Fin n₀) : (dstM i h1 t).view.amount (SemLoc.dma cc0_scratch2.sem) = NN := rfl

/-- The issue of copy `t`, in a program that goes on. -/
theorem issue_copy (t : Fin n₀) {α : Type} {hs : (srcT i h1 X hX t).view.WordExact} {hd : (dstM i h1 t).view.WordExact}
    {hsem : DmaTarget.Typed (nD := nD) _ (SemLoc.dma cc0_scratch2.sem) (.here (p := (Proc.tc : Proc τ)) (dstM i h1 t))}
    {K : PUnit → Prog (TpuEff nD τ sig (Elt F) Λ₀ .tc) α} {Q : α → sProp 𝕄} :
    iprop(tokAt c i h1 X hX T t ∗ rowAt c i h1 f₀ t ∗ batch c i h1 X hX T f₀ t.val 0)
      ⊢ iprop((batch c i h1 X hX T f₀ (t.val + 1) 0 -∗ wp frame (wpE defs₀ Variants.none (c : Thread nD τ) none) Set.univ (K ⟨⟩) Q)
        -∗ wp frame (wpE defs₀ Variants.none (c : Thread nD τ) none) Set.univ
          (.op (.enqueueDma (srcT i h1 X hX t) (.here (p := (Proc.tc : Proc τ)) (dstM i h1 t)) (SemLoc.dma cc0_scratch2.sem) hs hd hsem) K) Q) :=
  Transfers.wp_dmaBatch (countersEmb (U := U₀)) Variants.none (c : Thread nD τ) none (src := srcT i h1 X hX t) (dst := dstM i h1 t)
    (q := Transfers.shareTokN fullShare t.val) (fs := T) (Sd := (dstM i h1 t).view.set) (fd := f₀) (D := deliv c i h1 X hX T f₀)
    (j := t.val) (u := 0) () NN (amount_dst i h1 t) Finset.Subset.rfl t.isLt (Nat.zero_le _) Entails.rfl

/-- The word that trip `k` loads. -/
theorem word_read (k : Fin n₀) :
    word X k = ((Memref.whole main_v0).access (Rect.unit (s := S2048) (k0_off1 k) S1.size (k0_off1_inb i k h1))).read (Elt F) X (Shape.Idx.first (show 0 < S1.numel by decide)) := by
  rw [View.read_apply]
  unfold word
  show X _ = X _
  congr 1
  funext d
  match d with
  | ⟨0, _⟩ =>
    apply Fin.ext
    show k.val = k0_off1 k 0 + 1 * 0
    rw [off1_eq]; rfl

/-- One trip of the issuing loop: the word loaded, its range met, the copy issued. -/
theorem issue_step (k : Fin n₀) (acc : Unit) :
    issueInv c i h1 X hX T f₀ k.val acc
      ⊢ wp frame (wpE defs₀ Variants.none (c : Thread nD τ) none) Set.univ (issueBody i h1 arg3 harg3 arg5 harg5 k acc)
        (issueInv c i h1 X hX T f₀ (k.val + 1)) := by
  have hk := k.isLt
  have hchk := chk_of_lt i (hX k)
  unfold issueInv
  rw [Ring.bigSep_rangeSet_head (Φ := rowAt c i h1 f₀) hk hk, Ring.bigSep_rangeSet_head (Φ := tokAt c i h1 X hX T) hk hk]
  iintro ⟨HX, HB, ⟨HR, HRs⟩, HT, HTs⟩
  sl_unfold [issueBody]
  sl_unfold [k0_t1_body]
  sl_exec
  generalize hv : issue_step.sl.r i h1 X k = v
  obtain rfl : v = word X k := hv.symm.trans (word_read i h1 X k).symm
  clear hv
  sl_exec
  iapply (issue_copy c i h1 X hX T f₀ k) $$ [HR HT HB]
  · isplitl [HT]; · iexact HT
    isplitl [HR] <;> iassumption
  iintro HB
  sl_step
  isplitl [HX]; · iexact HX
  isplitl [HB]; · iexact HB
  isplitl [HRs] <;> iassumption

/-- One trip of the waiting loop: a wait of one row's amount. -/
theorem drain_step (k : Fin k0_t2_loop.trips) (acc : Unit) :
    drainInv c i h1 X hX T f₀ k.val acc
      ⊢ wp frame (wpE defs₀ Variants.none (c : Thread nD τ) none) Set.univ (drainBody i h1 arg3 harg3 arg5 harg5 k acc)
        (drainInv c i h1 X hX T f₀ (k.val + 1)) := by
  have hk : k.val < n₀ := by rw [n₀_eq]; exact lt_of_lt_of_eq k.isLt trips2_eq
  unfold drainInv
  iintro ⟨-, ⟨%W, HO⟩, HB⟩
  sl_unfold [drainBody]
  sl_unfold [k0_t2_body]
  sl_exec
  iapply (Transfers.wp_waitBatchMul (countersEmb (U := U₀)) Variants.none (c : Thread nD τ) none () (N := NN) 1 (Nat.one_mul NN).symm
    (j := n₀) (u := k.val * NN) (by rw [← Nat.add_mul, Nat.mul_comm NN]; exact Nat.mul_le_mul_right _ hk)) $$ [HB HO]
  · isplitl [HB] <;> iassumption
  iintro ⟨HB, HO⟩
  sl_step
  isplitr; · ipureintro; exact hk
  isplitl [HO]; · iexists _; iexact HO
  rw [Nat.add_mul]
  iexact HB

end Loops

end Cert.KernelIdeal.Gather

end
-- ==== Proof.KernelIdeal.Rows.lean ====
/- The gather around its two loops: the scratch dealt out row by row and the table dealt out as read shares of the rows
   that the index words name; and, once every copy has landed, the scratch and the table whole again, the scratch
   holding in row `t` the table row named by index word `t`. -/
module

public import proofs.«01_k».proof.Proof.KernelIdeal.Gather

@[expose] public section

set_option maxRecDepth 16384

noncomputable section

namespace Cert.KernelIdeal.Gather

open Cert.KernelIdeal Cert.KernelIdeal.Gen
open Idealize.ShloMosaic TcCoe
open Idealize.ShloMosaic.ValueIdx (ix1 ix2)
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA
open Idealize.ShloMosaic.Tactic

variable {F : FTy → Type} [FloatOps F]
local notation "𝕄" => MT nD τ sig Unit (Elt F) ℕ U₀ ℕ

variable (c : Dev nD) (i : grid0.Coords) (h1 : k0_cond1 i = 1#1)
  (X : S2048.Idx → Elt F .i32) (hX : InRange X)
  (T : S50000x1024.Idx → Elt F .f32) (f₀ : S2048x1024.Idx → Elt F .f32)

/-- The gathered rows: row `t` is the table row named by index word `t`. -/
def gathered : S2048x1024.Idx → Elt F .f32 := fun y =>
  T (ix2 ⟨(word X ⟨(y 0).val, lt_of_lt_of_eq (y 0).isLt n₀_eq.symm⟩).toNat, hX _⟩ (y 1))

/-- The elements of row `t` of the scratch. -/
def rowSet (t : Fin n₀) : Finset S2048x1024.Idx := (dstM i h1 t).view.set

theorem rowSet_eq (t : Fin n₀) :
    rowSet i h1 t = (Rect.unit (s := S2048x1024) (k0_off2 t) S1x1024.size (k0_off2_inb i t h1)).set :=
  View.set_slice_whole cc0_scratch0 _

/-- They are the elements whose first coordinate is `t`. -/
theorem mem_row (t : Fin n₀) (y : S2048x1024.Idx) : y ∈ rowSet i h1 t ↔ (y 0).val = t.val := by
  rw [rowSet_eq, Rect.mem_set_unit, off2_eq]
  constructor
  · intro h
    have h0 : t.val ≤ (y 0).val ∧ (y 0).val < t.val + 1 := h 0
    omega
  · intro h a
    match a with
    | ⟨0, _⟩ => show t.val ≤ (y 0).val ∧ (y 0).val < t.val + 1; omega
    | ⟨1, _⟩ => exact ⟨Nat.zero_le _, by have : (y 1).val < 1024 := (y 1).isLt; show (y 1).val < 0 + 1024; omega⟩

theorem row_disjoint (t t' : Fin n₀) (h : t ≠ t') : Disjoint (rowSet i h1 t) (rowSet i h1 t') := by
  rw [Finset.disjoint_left]
  intro y hy hy'
  exact h (Fin.ext (((mem_row i h1 t y).1 hy).symm.trans ((mem_row i h1 t' y).1 hy')))

theorem row_cover : Finset.univ.biUnion (rowSet i h1) = Finset.univ := by
  ext y
  simp only [Finset.mem_biUnion, Finset.mem_univ, true_and, iff_true]
  exact ⟨⟨(y 0).val, lt_of_lt_of_eq (y 0).isLt n₀_eq.symm⟩, (mem_row i h1 _ y).2 rfl⟩

/-- What copy `t` lands in its row is the gathered row. -/
theorem landed_eq (t : Fin n₀) (y : S2048x1024.Idx) (hy : y ∈ rowSet i h1 t) :
    landed i h1 X hX T f₀ t y = gathered X hX T y := by
  obtain ⟨x, -, rfl⟩ := Finset.mem_map.mp hy
  unfold landed
  have e : (dstM i h1 t).view.write (Elt F) f₀ ((srcT i h1 X hX t).view.read (Elt F) T) Finset.univ ((dstM i h1 t).view.emb x)
      = (srcT i h1 X hX t).view.read (Elt F) T x :=
    (View.write_emb _ _ _ x).trans (if_pos (Finset.mem_univ x))
  refine e.trans ?_
  unfold gathered
  show T _ = T _
  congr 1
  funext d
  have hx0 : (x 0).val = 0 := by have : (x 0).val < 1 := (x 0).isLt; omega
  have hw : ∀ r : Fin n₀, r.val = t.val → (word X t).toNat + 1 * 0 = (word X r).toNat := fun r hr => by
    rw [show r = t from Fin.ext hr]; omega
  match d with
  | ⟨0, _⟩ =>
    apply Fin.ext
    show k0_off3 (word X t) 0 + 1 * (x 0).val = _
    rw [off3_eq, hx0]
    exact hw _ ((mem_row i h1 t _).1 hy)
  | ⟨1, _⟩ =>
    apply Fin.ext
    show k0_off3 (word X t) 1 + 1 * (x 1).val = k0_off2 t 1 + 1 * (x 1).val
    rw [off3_eq, off2_eq]; rfl

/-- The part of copy `t`'s read share of the table that lies off the row it reads. -/
def tokRest (t : Fin n₀) : sProp 𝕄 :=
  iprop((c : Thread nD τ).loc main_arg1 ↦[Finset.univ \ (srcT i h1 X hX t).view.set]{Transfers.shareTokN fullShare t.val} T)

/-- What of the table no copy reads. -/
def tableRest : sProp 𝕄 :=
  iprop(((c : Thread nD τ).loc main_arg1 ↦{Transfers.shareDrop fullShare n₀} T) ∗ bigSep Finset.univ (tokRest c i h1 X hX T))

theorem table_deal :
    ((c : Thread nD τ).loc main_arg1 ↦{fullShare} T : sProp 𝕄)
      ⊣⊢ iprop(tableRest c i h1 X hX T ∗ bigSep Finset.univ (tokAt c i h1 X hX T)) := by
  have ht : ∀ t : Fin n₀, ((c : Thread nD τ).loc main_arg1 ↦{Transfers.shareTok fullShare n₀ t} T : sProp 𝕄)
      = iprop(tokAt c i h1 X hX T t ∗ tokRest c i h1 X hX T t) := fun t =>
    BI.Entails.antisymm (pointsTo_split_subset (Finset.subset_univ _)).1 (pointsTo_split_subset (Finset.subset_univ _)).2
  have e : bigSep Finset.univ (fun t : Fin n₀ => ((c : Thread nD τ).loc main_arg1 ↦{Transfers.shareTok fullShare n₀ t} T : sProp 𝕄))
      = iprop(bigSep Finset.univ (tokAt c i h1 X hX T) ∗ bigSep Finset.univ (tokRest c i h1 X hX T)) := by
    exact (BI.bigSep_congr fun t _ => ht t).trans (BI.bigSep_sep _ _ _)
  have h := Transfers.pointsTo_toks (Lvl := ℕ) (nD := nD) (τ := τ) (sig := sig) (Ix := Unit) (Val := Elt F) (Name := ℕ) (U := U₀)
    (ℓ := (c : Thread nD τ).loc main_arg1) (S := Finset.univ) (f := T) fullShare n₀
  rw [e] at h
  unfold tableRest
  refine ⟨h.1.trans ?_, Entails.trans ?_ h.2⟩
  · iintro ⟨H, Ht, Hr⟩
    isplitl [H Hr]
    · isplitl [H] <;> iassumption
    iexact Ht
  · iintro ⟨⟨H, Hr⟩, Ht⟩
    isplitl [H]; · iexact H
    isplitl [Ht] <;> iassumption

theorem scratch_deal (f : S2048x1024.Idx → Elt F .f32) :
    ((c : Thread nD τ).loc cc0_scratch0 ↦{fullShare} f : sProp 𝕄) = bigSep Finset.univ (rowAt c i h1 f) :=
  Ring.pointsTo_blocks (ℓ := (c : Thread nD τ).loc cc0_scratch0) (rowSet i h1) (row_disjoint i h1) (row_cover i h1) f

/-- The table row that copy `t` reads, as elements of the table. -/
def srcSet (t : Fin n₀) : Finset S50000x1024.Idx := (srcT i h1 X hX t).view.set

instance rowAt_storable (f : S2048x1024.Idx → Elt F .f32) (t : Fin n₀) : BI.Storable (upEmb : UEmb _ 𝕄) (rowAt c i h1 f t) :=
  inferInstanceAs (BI.Storable (upEmb : UEmb _ 𝕄) ((c : Thread nD τ).loc cc0_scratch0 ↦[rowSet i h1 t]{fullShare} f))

instance tokAt_storable (t : Fin n₀) : BI.Storable (upEmb : UEmb _ 𝕄) (tokAt c i h1 X hX T t) :=
  inferInstanceAs (BI.Storable (upEmb : UEmb _ 𝕄)
    ((c : Thread nD τ).loc main_arg1 ↦[srcSet i h1 X hX t]{Transfers.shareTokN fullShare t.val} T))

instance deliv_storable (t : Fin n₀) : BI.Storable (upEmb : UEmb _ 𝕄) (deliv c i h1 X hX T f₀ t) := by
  unfold deliv; infer_instance

/-- Before the issuing loop. -/
theorem gather_open :
    iprop(((c : Thread nD τ).loc cc0_scratch0 ↦{fullShare} f₀) ∗ ((c : Thread nD τ).loc main_arg1 ↦{fullShare} T)
        ∗ ((Memref.whole main_v0).view.loc c ↦{fullShare.right} X)
        ∗ semVal ((c : Thread nD τ), SemLoc.dma cc0_scratch2.sem) 0)
      ⊢ (|={Set.univ}=> iprop(issueInv c i h1 X hX T f₀ 0 () ∗ tableRest c i h1 X hX T) : sProp 𝕄) := by
  iintro ⟨HS, HT, HX, Hc⟩
  imod (Transfers.batch_alloc' (Lvl := ℕ) (countersEmb (U := U₀)) (c : Thread nD τ) () NN (deliv c i h1 X hX T f₀)
    (sm := SemLoc.dma cc0_scratch2.sem) (E := Set.univ)) $$ Hc with HB
  ihave HT' := (table_deal c i h1 X hX T).1 $$ HT
  ihave HS' := (Entails.of_eq (scratch_deal c i h1 f₀)) $$ HS
  icases HT' with ⟨HR, Hts⟩
  imodintro
  unfold issueInv
  rw [Ring.rangeSet_univ]
  isplitr [HR]
  · isplitl [HX]; · iexact HX
    isplitl [HB]; · iexact HB
    isplitl [HS'] <;> iassumption
  iexact HR

/-- After the waiting loop. -/
theorem gather_close (hN : 0 < NN) :
    iprop(batch c i h1 X hX T f₀ n₀ (n₀ * NN) ∗ tableRest c i h1 X hX T)
      ⊢ (|={Set.univ}=> iprop(((c : Thread nD τ).loc cc0_scratch0 ↦{fullShare} gathered X hX T)
          ∗ ((c : Thread nD τ).loc main_arg1 ↦{fullShare} T)
          ∗ semVal ((c : Thread nD τ), SemLoc.dma cc0_scratch2.sem) 0) : sProp 𝕄) := by
  iintro ⟨HB, HR⟩
  rw [Nat.mul_comm n₀ NN]
  imod (Transfers.batch_collect' (countersEmb (U := U₀)) (c : Thread nD τ) (N := NN) hN (D := deliv c i h1 X hX T f₀)) $$ HB with ⟨Hall, Hc⟩
  imodintro
  have e : bigSep Finset.univ (deliv c i h1 X hX T f₀)
      = (iprop(((c : Thread nD τ).loc cc0_scratch0 ↦{fullShare} gathered X hX T) ∗ bigSep Finset.univ (tokAt c i h1 X hX T)) : sProp 𝕄) := by
    rw [scratch_deal c i h1 (gathered X hX T)]
    refine (BI.bigSep_congr fun t _ => ?_).trans (BI.bigSep_sep _ _ _)
    exact congrArg (fun P => iprop(P ∗ tokAt c i h1 X hX T t))
      (pointsTo_congr (ℓ := (c : Thread nD τ).loc cc0_scratch0) (I := rowSet i h1 t) fun y hy => landed_eq i h1 X hX T f₀ t y hy)
  ihave Hall' := (Entails.of_eq e) $$ Hall
  icases Hall' with ⟨HS, Hts⟩
  isplitl [HS]; · iexact HS
  isplitr [Hc]
  · iapply (table_deal c i h1 X hX T).2
    isplitl [HR] <;> iassumption
  iexact Hc

theorem NN_pos : 0 < NN := RefSig.tileCredit_pos _ _ (by decide)

end Cert.KernelIdeal.Gather

end
-- ==== Proof.KernelIdeal.Body.lean ====
/- The kernel's body at a grid point: the first point gathers, rounds and sends the gathered rows off, every point forms
   its block of the product, the last point takes the sent rows' arrival. -/
module

public import proofs.«01_k».proof.Proof.KernelIdeal.Rows
public import Idealize.ShloMosaic.Lib.VecWindow

@[expose] public section

set_option maxRecDepth 16384

noncomputable section

namespace Cert.KernelIdeal.Gather

open Cert.KernelIdeal Cert.KernelIdeal.Gen
open Idealize.ShloMosaic TcCoe
open Idealize.ShloMosaic.ValueIdx (ix1 ix2)
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {F : FTy → Type} [FloatOps F]
local notation "𝕄" => MT nD τ sig Unit (Elt F) ℕ U₀ ℕ

variable (c : Dev nD) (i : grid0.Coords)
  (X : S2048.Idx → Elt F .i32) (hX : InRange X)
  (T : S50000x1024.Idx → Elt F .f32)
  (arg3 : Memref sig .tc .vmem S1024x1024 .f32) (harg3 : arg3.IsWhole)
  (arg5 : Memref sig .tc .vmem S2048x1024 .f32) (harg5 : arg5.IsWhole)

/-- The amount of the whole copy of the gathered rows. -/
abbrev NH : ℕ := RefSig.tileCredit S2048x1024 .f32

theorem NH_pos : 0 < NH := RefSig.tileCredit_pos _ _ (by decide)

/-- The gathered rows on their way to the result: the result at them and the scratch back, at the wait. -/
def sent (H : S2048x1024.Idx → Elt F .f32) : sProp 𝕄 :=
  Transfers.Flight (countersEmb (U := U₀)) (c : Thread nD τ) (SemLoc.dma cc0_scratch3.sem) () NH
    iprop(((c : Thread nD τ).loc main_v1_0 ↦{fullShare} H) ∗ ((c : Thread nD τ).loc cc0_scratch0 ↦{fullShare} H))

/-- The rounded rows in the second scratch. -/
def rounded (H : Vec F S2048x1024 .bf16) : sProp 𝕄 := owns (c : Thread nD τ) (Memref.whole cc0_scratch1) fullShare H

/-- The test that the last grid point passes. -/
def cond2 (i : grid0.Coords) : BitVec 1 :=
  Scalar.cmpi .ne (Scalar.extui (Scalar.cmpi .eq (BitVec.ofNat 32 (i 0).val) 48#32) : BitVec 32) 0#32

/-- The body on its operands. -/
abbrev body : Prog (TpuEff nD τ sig (Elt F) Λ₀ .tc) PUnit :=
  cc0__body i (Memref.whole main_v0) (Memref.isWhole_whole _) (Memref.whole main_arg1) (Memref.isWhole_whole _)
    arg3 harg3 (Memref.whole main_v1_0) (Memref.isWhole_whole _) arg5 harg5 (Memref.whole cc0_scratch0) (Memref.isWhole_whole _)
    (Memref.whole cc0_scratch1) (Memref.isWhole_whole _) cc0_scratch2 cc0_scratch3

/-- What the store of the product leaves, read back; -/
theorem product_read' {arg3 : Memref sig .tc .vmem S1024x1024 .f32} {arg5 : Memref sig .tc .vmem S2048x1024 .f32}
    (H : Vec F S2048x1024 .bf16) (Y : Vec F S1024x1024 .f32) {f3 : arg3.view.ty.Contents (Elt F)} {f5 : arg5.view.ty.Contents (Elt F)}
    (e3 : arg3.view.read (Elt F) f3 = Y) :
    arg5.view.read (Elt F) (arg5.view.writes (Elt F) f5
      [⟨Rect.unit (s := S2048x1024) ![0, 0] S2048x1024.size inb_S2048x1024_S2048x1024_0_0,
        k0_pay2 H
          (arg3.view.readAt (Elt F) (Rect.unit (s := S1024x1024) ![0, 0] S1024x1024.size inb_S1024x1024_S1024x1024_0_0).toLoadRect f3)⟩])
      = k0_pay2 H Y :=
  (View.read_writes_full arg5.view f5 inb_S2048x1024_S2048x1024_0_0 _ _).trans
    (congrArg (k0_pay2 H) ((View.readAt_full arg3.view f3 inb_S1024x1024_S1024x1024_0_0).trans e3))

/-- with the rounded rows loaded too. -/
theorem product_read {arg3 : Memref sig .tc .vmem S1024x1024 .f32} {arg5 : Memref sig .tc .vmem S2048x1024 .f32}
    (H : Vec F S2048x1024 .bf16) (Y : Vec F S1024x1024 .f32)
    {f7 : (Memref.whole cc0_scratch1).view.ty.Contents (Elt F)} {f3 : arg3.view.ty.Contents (Elt F)} {f5 : arg5.view.ty.Contents (Elt F)}
    (e7 : (Memref.whole cc0_scratch1).view.read (Elt F) f7 = H) (e3 : arg3.view.read (Elt F) f3 = Y) :
    arg5.view.read (Elt F) (arg5.view.writes (Elt F) f5
      [⟨Rect.unit (s := S2048x1024) ![0, 0] S2048x1024.size inb_S2048x1024_S2048x1024_0_0,
        k0_pay2
          ((Memref.whole cc0_scratch1).view.readAt (Elt F) (Rect.unit (s := S2048x1024) ![0, 0] S2048x1024.size inb_S2048x1024_S2048x1024_0_0).toLoadRect f7)
          (arg3.view.readAt (Elt F) (Rect.unit (s := S1024x1024) ![0, 0] S1024x1024.size inb_S1024x1024_S1024x1024_0_0).toLoadRect f3)⟩])
      = k0_pay2 H Y :=
  (product_read' _ Y e3).trans
    (congrArg (k0_pay2 · Y) ((View.readAt_full (Memref.whole cc0_scratch1).view f7 inb_S2048x1024_S2048x1024_0_0).trans e7))

theorem NH_eq : (262144 : ℕ) = NH := by decide +kernel

/-- The copy in flight as the issue leaves it: the result written whole, the scratch lent whole. -/
theorem sent_of (R₀ G : S2048x1024.Idx → Elt F .f32) :
    Transfers.Flight (countersEmb (U := U₀)) (c : Thread nD τ) (SemLoc.dma cc0_scratch3.sem) (default : Unit) 262144
      (iprop(((Memref.whole main_v1_0).view.loc c ↦{fullShare} (Memref.whole main_v1_0).view.write (Elt F) R₀ G Finset.univ)
        ∗ ((Memref.whole cc0_scratch0).view.loc c ↦[(Memref.whole cc0_scratch0).view.set]{fullShare} G)) : sProp 𝕄)
      = sent c G := by
  unfold sent
  rw [NH_eq]
  refine congrArg (Transfers.Flight (countersEmb (U := U₀)) (c : Thread nD τ) (SemLoc.dma cc0_scratch3.sem) () NH) ?_
  refine congrArg₂ (fun P Q : sProp 𝕄 => iprop(P ∗ Q)) ?_ ?_
  · exact congrArg (fun g : S2048x1024.Idx → Elt F .f32 => (iprop((c : Thread nD τ).loc main_v1_0 ↦{fullShare} g) : sProp 𝕄))
      (View.write_whole_univ main_v1_0 R₀ G)
  · exact congrArg (fun S : Finset S2048x1024.Idx => (iprop((c : Thread nD τ).loc cc0_scratch0 ↦[S]{fullShare} G) : sProp 𝕄))
      (View.set_whole cc0_scratch0)

/-- The first scratch, written as its memref's own elements; -/
theorem whole_pts (f : S2048x1024.Idx → Elt F .f32) :
    (iprop((c : Thread nD τ).loc cc0_scratch0 ↦{fullShare} f) : sProp 𝕄)
      = iprop((Memref.whole cc0_scratch0).view.loc c ↦{fullShare} f) := rfl

/-- the hidden result likewise. -/
theorem result_pts (f : S2048x1024.Idx → Elt F .f32) :
    (iprop((c : Thread nD τ).loc main_v1_0 ↦{fullShare} f) : sProp 𝕄)
      = iprop((Memref.whole main_v1_0).view.loc c ↦{fullShare} f) := rfl

/-- A point in the middle. -/
theorem body_mid (h1 : ¬ k0_cond1 i = 1#1) (h2 : ¬ cond2 i = 1#1) (H : Vec F S2048x1024 .bf16) (Y : Vec F S1024x1024 .f32) :
    iprop(rounded c H ∗ owns (c : Thread nD τ) arg3 fullShare Y ∗ (∃ d, owns (c : Thread nD τ) arg5 fullShare d))
      ⊢ wp frame (wpE defs₀ Variants.none (c : Thread nD τ) none) Set.univ (body i arg3 harg3 arg5 harg5)
        (fun _ => iprop(rounded c H ∗ owns (c : Thread nD τ) arg3 fullShare Y
          ∗ owns (c : Thread nD τ) arg5 fullShare (k0_pay2 H Y)) : PUnit → sProp 𝕄) := by
  unfold body
  simp only [cc0__body_eq_skeleton]
  unfold cc0__body_skel
  unfold rounded owns
  iintro ⟨⟨%f7, %e7, H7⟩, ⟨%f3, %e3, H3⟩, ⟨%d5, %f5, -, H5⟩⟩
  sl_exec
  sl_step
  isplitl [H7]
  · iexists f7; isplitr; · ipureintro; exact e7
    iexact H7
  isplitl [H3]
  · iexists f3; isplitr; · ipureintro; exact e3
    iexact H3
  iexists _; isplitr; swap; · iexact H5
  ipureintro
  exact product_read H Y e7 e3

/-- The first point, where it is not the last. -/
theorem body_first (h1 : k0_cond1 i = 1#1) (h2 : ¬ cond2 i = 1#1) (f₀ : S2048x1024.Idx → Elt F .f32) (Y : Vec F S1024x1024 .f32)
    (R₀ : S2048x1024.Idx → Elt F .f32) (W : Waits sig Unit) :
    iprop(((c : Thread nD τ).loc cc0_scratch0 ↦{fullShare} f₀) ∗ ((c : Thread nD τ).loc main_arg1 ↦{fullShare} T)
        ∗ ((Memref.whole main_v0).view.loc c ↦{fullShare.right} X)
        ∗ semVal ((c : Thread nD τ), SemLoc.dma cc0_scratch2.sem) 0
        ∗ semVal ((c : Thread nD τ), SemLoc.dma cc0_scratch3.sem) 0
        ∗ ((c : Thread nD τ).loc main_v1_0 ↦{fullShare} R₀)
        ∗ (∃ H, rounded c H) ∗ owes (c : Thread nD τ) 0 W
        ∗ owns (c : Thread nD τ) arg3 fullShare Y ∗ (∃ d, owns (c : Thread nD τ) arg5 fullShare d))
      ⊢ wp frame (wpE defs₀ Variants.none (c : Thread nD τ) none) Set.univ (body i arg3 harg3 arg5 harg5)
        (fun _ => iprop(sent c (gathered X hX T) ∗ ((c : Thread nD τ).loc main_arg1 ↦{fullShare} T)
          ∗ ((Memref.whole main_v0).view.loc c ↦{fullShare.right} X)
          ∗ semVal ((c : Thread nD τ), SemLoc.dma cc0_scratch2.sem) 0
          ∗ rounded c (k0_pay1 (gathered X hX T)) ∗ (∃ W', owes (c : Thread nD τ) 0 W')
          ∗ owns (c : Thread nD τ) arg3 fullShare Y
          ∗ owns (c : Thread nD τ) arg5 fullShare (k0_pay2 (k0_pay1 (gathered X hX T)) Y)) : PUnit → sProp 𝕄) := by
  unfold body
  simp only [cc0__body_eq_skeleton]
  unfold cc0__body_skel
  unfold rounded owns
  iintro ⟨HS, HT, HX, Hc, Hc', HR, ⟨%d7, %f7, -, H7⟩, HO, ⟨%f3, %e3, H3⟩, ⟨%d5, %f5, -, H5⟩⟩
  imod (gather_open c i h1 X hX T f₀) $$ [HS HT HX Hc] with ⟨HI, Hrest⟩
  · isplitl [HS]; · iexact HS
    isplitl [HT]; · iexact HT
    isplitl [HX] <;> iassumption
  sl_exec
  sl_for (issueInv c i h1 X hX T f₀) $$ [HI]
  · intro k acc
    exact issue_step c i h1 X hX T f₀ arg3 harg3 arg5 harg5 k acc
  · iexact HI
  iintro %acc HI
  unfold issueInv
  icases HI with ⟨HX, HB, -, -⟩
  sl_for (drainInv c i h1 X hX T f₀) $$ [HB HO]
  · intro k acc
    exact drain_step c i h1 X hX T f₀ arg3 harg3 arg5 harg5 k acc
  · unfold drainInv
    isplitr; · ipureintro; exact Nat.zero_le _
    isplitl [HO]; · iexists _; iexact HO
    rw [Nat.zero_mul]
    iexact HB
  iintro %acc2 HD
  unfold drainInv
  icases HD with ⟨-, ⟨%W2, HO⟩, HB⟩
  imod (gather_close c i h1 X hX T f₀ NN_pos) $$ [HB Hrest] with ⟨HS, HT, Hc⟩
  · isplitl [HB] <;> iassumption
  ihave HS := (Entails.of_eq (whole_pts c (gathered X hX T))) $$ HS
  ihave HR := (Entails.of_eq (result_pts c R₀)) $$ HR
  sl_exec
  have e7 : (Memref.whole cc0_scratch1).view.read (Elt F)
      ((Memref.whole cc0_scratch1).view.writes (Elt F) f7 (body_first.sl.H7_1 X hX T)) = k0_pay1 (gathered X hX T) := by
    unfold body_first.sl.H7_1
    exact (View.read_writes_full (Memref.whole cc0_scratch1).view f7 inb_S2048x1024_S2048x1024_0_0 _ _).trans
      (congrArg k0_pay1 (View.readAt_full (Memref.whole cc0_scratch0).view (gathered X hX T) inb_S2048x1024_S2048x1024_0_0))
  have ev : body_first.sl.v3 c X hX T = k0_pay1 (gathered X hX T) := by
    unfold body_first.sl.v3
    unfold body_first.sl.H7_1
    exact (View.readCov_full (Memref.whole cc0_scratch1).view inb_S2048x1024_S2048x1024_0_0 inb_S2048x1024_S2048x1024_0_0 _ _).trans
      (congrArg k0_pay1 (View.readAt_full (Memref.whole cc0_scratch0).view (gathered X hX T) inb_S2048x1024_S2048x1024_0_0))
  have ed : body_first.sl.dma3 X hX T = gathered X hX T := rfl
  rw [ev, ed]
  clear ev ed
  sl_step
  isplitl [Hc']
  · iapply (Entails.of_eq (sent_of c R₀ (gathered X hX T)))
    iexact Hc'
  isplitl [HT]; · iexact HT
  isplitl [HX]; · iexact HX
  isplitl [Hc]; · iexact Hc
  isplitl [H7]
  · iexists _; isplitr; swap; · iexact H7
    ipureintro; exact e7
  isplitl [HO]; · iexists _; iexact HO
  isplitl [H3]
  · iexists f3; isplitr; · ipureintro; exact e3
    iexact H3
  iexists _; isplitr; swap; · iexact H5
  ipureintro
  exact product_read' _ Y e3

/-- The last point, where it is not the first. -/
theorem body_last (h1 : ¬ k0_cond1 i = 1#1) (h2 : cond2 i = 1#1) (H : Vec F S2048x1024 .bf16) (Y : Vec F S1024x1024 .f32)
    (G : S2048x1024.Idx → Elt F .f32) (W : Waits sig Unit) :
    iprop(rounded c H ∗ sent c G ∗ owes (c : Thread nD τ) 0 W ∗ owns (c : Thread nD τ) arg3 fullShare Y
        ∗ (∃ d, owns (c : Thread nD τ) arg5 fullShare d))
      ⊢ wp frame (wpE defs₀ Variants.none (c : Thread nD τ) none) Set.univ (body i arg3 harg3 arg5 harg5)
        (fun _ => iprop(rounded c H
          ∗ (((c : Thread nD τ).loc main_v1_0 ↦{fullShare} G) ∗ ((c : Thread nD τ).loc cc0_scratch0 ↦{fullShare} G))
          ∗ semVal ((c : Thread nD τ), SemLoc.dma cc0_scratch3.sem) 0 ∗ (∃ W', owes (c : Thread nD τ) 0 W')
          ∗ owns (c : Thread nD τ) arg3 fullShare Y
          ∗ owns (c : Thread nD τ) arg5 fullShare (k0_pay2 H Y)) : PUnit → sProp 𝕄) := by
  unfold body
  simp only [cc0__body_eq_skeleton]
  unfold cc0__body_skel
  unfold rounded owns sent
  iintro ⟨⟨%f7, %e7, H7⟩, HF, HO, ⟨%f3, %e3, H3⟩, ⟨%d5, %f5, -, H5⟩⟩
  sl_exec
  sl_step
  isplitl [H7]
  · iexists f7; isplitr; · ipureintro; exact e7
    iexact H7
  isplitl [HF_dst HF_src]
  · isplitl [HF_dst] <;> iassumption
  isplitl [HF]; · iexact HF
  isplitl [HO]; · iexists _; iexact HO
  isplitl [H3]
  · iexists f3; isplitr; · ipureintro; exact e3
    iexact H3
  iexists _; isplitr; swap; · iexact H5
  ipureintro
  exact product_read H Y e7 e3

end Cert.KernelIdeal.Gather

end
-- ==== Proof.KernelIdeal.Invariant.lean ====
/- What holds between the grid points, and the body as a step from one to the next. Before the first point everything is
   at rest; from then until the last point the gathered rows are on their way to the result. -/
module

public import proofs.«01_k».proof.Proof.KernelIdeal.Body

@[expose] public section

set_option maxRecDepth 16384

noncomputable section

namespace Cert.KernelIdeal.Gather

open Cert.KernelIdeal Cert.KernelIdeal.Gen
open Idealize.ShloMosaic TcCoe
open Idealize.ShloMosaic.ValueIdx (ix1 ix2)
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {F : FTy → Type} [FloatOps F]
local notation "𝕄" => MT nD τ sig Unit (Elt F) ℕ U₀ ℕ

variable (c : Dev nD) (i : grid0.Coords)
  (X : S2048.Idx → Elt F .i32) (hX : InRange X)
  (T : S50000x1024.Idx → Elt F .f32)
  (arg3 : Memref sig .tc .vmem S1024x1024 .f32) (harg3 : arg3.IsWhole)
  (arg5 : Memref sig .tc .vmem S2048x1024 .f32) (harg5 : arg5.IsWhole)

/-- Before the first point. `Z` is kept as it is. -/
def atStart (Z : sProp 𝕄) : sProp 𝕄 :=
  iprop(Z ∗ (∃ f : S2048x1024.Idx → Elt F .f32, (c : Thread nD τ).loc cc0_scratch0 ↦{fullShare} f)
    ∗ (∃ H, rounded c H)
    ∗ semVal ((c : Thread nD τ), SemLoc.dma cc0_scratch2.sem) 0
    ∗ semVal ((c : Thread nD τ), SemLoc.dma cc0_scratch3.sem) 0
    ∗ ((c : Thread nD τ).loc main_arg1 ↦{fullShare} T)
    ∗ (∃ f : S2048x1024.Idx → Elt F .f32, (c : Thread nD τ).loc main_v1_0 ↦{fullShare} f)
    ∗ ((Memref.whole main_v0).view.loc c ↦{fullShare.right} X))

/-- After the first point and before the last has run. -/
def inFlight (Z : sProp 𝕄) : sProp 𝕄 :=
  iprop(Z ∗ sent c (gathered X hX T) ∗ rounded c (k0_pay1 (gathered X hX T))
    ∗ semVal ((c : Thread nD τ), SemLoc.dma cc0_scratch2.sem) 0
    ∗ ((c : Thread nD τ).loc main_arg1 ↦{fullShare} T)
    ∗ ((Memref.whole main_v0).view.loc c ↦{fullShare.right} X))

/-- After the last point. -/
def atEnd (Z : sProp 𝕄) : sProp 𝕄 :=
  iprop(Z ∗ ((c : Thread nD τ).loc cc0_scratch0 ↦{fullShare} gathered X hX T)
    ∗ rounded c (k0_pay1 (gathered X hX T))
    ∗ semVal ((c : Thread nD τ), SemLoc.dma cc0_scratch2.sem) 0
    ∗ semVal ((c : Thread nD τ), SemLoc.dma cc0_scratch3.sem) 0
    ∗ ((c : Thread nD τ).loc main_arg1 ↦{fullShare} T)
    ∗ ((c : Thread nD τ).loc main_v1_0 ↦{fullShare} gathered X hX T)
    ∗ ((Memref.whole main_v0).view.loc c ↦{fullShare.right} X))

/-- Before point `k`. -/
def inv (Z : sProp 𝕄) (k : ℕ) : sProp 𝕄 :=
  if k = 0 then atStart c X T Z else if k = 49 then atEnd c X hX T Z else inFlight c X hX T Z

theorem inv_zero (Z : sProp 𝕄) : inv c X hX T Z 0 = atStart c X T Z := if_pos rfl
theorem inv_last (Z : sProp 𝕄) : inv c X hX T Z 49 = atEnd c X hX T Z := (if_neg (by decide)).trans (if_pos rfl)
theorem inv_mid (Z : sProp 𝕄) {k : ℕ} (h0 : k ≠ 0) (h1 : k ≠ 49) : inv c X hX T Z k = inFlight c X hX T Z := (if_neg h0).trans (if_neg h1)

/-- The first point alone gathers, -/
theorem first_iff : ∀ t : Fin grid0.N, k0_cond1 (grid0.coords t) = 1#1 ↔ t.val = 0 := by decide +kernel

/-- and the last alone waits. -/
theorem last_iff : ∀ t : Fin grid0.N, cond2 (grid0.coords t) = 1#1 ↔ t.val = 48 := by decide +kernel

/-- One grid point. -/
theorem point (Z : sProp 𝕄) (t : Fin grid0.N) (Y : Vec F S1024x1024 .f32) :
    iprop(inv c X hX T Z t.val ∗ (∃ W, owes (c : Thread nD τ) 0 W)
        ∗ owns (c : Thread nD τ) arg3 fullShare Y ∗ (∃ d, owns (c : Thread nD τ) arg5 fullShare d))
      ⊢ wp frame (wpE defs₀ Variants.none (c : Thread nD τ) none) Set.univ (body (grid0.coords t) arg3 harg3 arg5 harg5)
        (fun _ => iprop(inv c X hX T Z (t.val + 1) ∗ (∃ W', owes (c : Thread nD τ) 0 W')
          ∗ owns (c : Thread nD τ) arg3 fullShare Y
          ∗ owns (c : Thread nD τ) arg5 fullShare (k0_pay2 (k0_pay1 (gathered X hX T)) Y)) : PUnit → sProp 𝕄) := by
  have ht : t.val < 49 := lt_of_lt_of_eq t.isLt N_0
  rcases Nat.eq_zero_or_pos t.val with h0 | h0
  · have h1 := (first_iff t).2 h0
    have h2 : ¬ cond2 (grid0.coords t) = 1#1 := fun h => by have := (last_iff t).1 h; omega
    rw [h0, inv_zero, inv_mid c X hX T Z (by decide) (by decide)]
    unfold atStart inFlight
    iintro ⟨⟨HP, ⟨%f₀, HS⟩, Hr, Hc, Hc', HT, ⟨%R₀, HR⟩, HX⟩, ⟨%W, HO⟩, H3, H5⟩
    iapply ((body_first c (grid0.coords t) X hX T arg3 harg3 arg5 harg5 h1 h2 f₀ Y R₀ W).trans (wp_wand _ _ _)) $$ [HS HT HX Hc Hc' HR Hr HO H3 H5]
    · iframe HS HT HX Hc Hc' HR Hr HO H3 H5
    iintro %a ⟨HF, HT, HX, Hc, Hr, HO, H3, H5⟩
    iframe HP HF HT HX Hc Hr HO H3 H5
  · have h1 : ¬ k0_cond1 (grid0.coords t) = 1#1 := fun h => by have := (first_iff t).1 h; omega
    rw [inv_mid c X hX T Z (k := t.val) (by omega) (by omega)]
    rcases Nat.lt_or_ge t.val 48 with h8 | h8
    · have h2 : ¬ cond2 (grid0.coords t) = 1#1 := fun h => by have := (last_iff t).1 h; omega
      rw [inv_mid c X hX T Z (k := t.val + 1) (by omega) (by omega)]
      unfold inFlight
      iintro ⟨⟨HP, HF, Hr, Hc, HT, HX⟩, HO, H3, H5⟩
      iapply ((body_mid c (grid0.coords t) arg3 harg3 arg5 harg5 h1 h2 (k0_pay1 (gathered X hX T)) Y).trans (wp_wand _ _ _)) $$ [Hr H3 H5]
      · iframe Hr H3 H5
      iintro %a ⟨Hr, H3, H5⟩
      iframe HP HF HT HX Hc Hr HO H3 H5
    · have h8' : t.val = 48 := by omega
      have h2 := (last_iff t).2 h8'
      rw [show t.val + 1 = 49 by omega, inv_last]
      unfold inFlight atEnd
      iintro ⟨⟨HP, HF, Hr, Hc, HT, HX⟩, ⟨%W, HO⟩, H3, H5⟩
      iapply ((body_last c (grid0.coords t) arg3 harg3 arg5 harg5 h1 h2 (k0_pay1 (gathered X hX T)) Y (gathered X hX T) W).trans (wp_wand _ _ _))
        $$ [Hr HF HO H3 H5]
      · iframe Hr HF HO H3 H5
      iintro %a ⟨Hr, ⟨HR, HS⟩, Hc', HO, H3, H5⟩
      iframe HP HS HR Hc' HT HX Hc Hr HO H3 H5

end Cert.KernelIdeal.Gather

end
-- ==== Proof.KernelIdeal.Data.lean ====
/- The pipeline's proof data: what its arrays hold when the region begins, what each grid point leaves in the two staging
   buffers, and that the body does so from point to point. -/
module

public import proofs.«01_k».proof.Proof.KernelIdeal.Invariant
public import Idealize.ShloMosaic.Lib.Pipeline.FrameSuffixV
public import Idealize.ShloMosaic.Lib.Pipeline.FrameSuffixR

@[expose] public section

set_option maxRecDepth 16384

noncomputable section

namespace Cert.KernelIdeal.Gather

open Cert.KernelIdeal Cert.KernelIdeal.Gen
open Idealize.ShloMosaic TcCoe
open Idealize.ShloMosaic.ValueIdx (ix1 ix2)
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {F : FTy → Type} [FloatOps F]
local notation "𝕄" => MT nD τ sig Unit (Elt F) ℕ U₀ ℕ

open Idealize.ShloMosaic.Pipeline (Dat)

/-- The contents of the core's buffers when the region begins. -/
abbrev Bufs (F : FTy → Type) [FloatOps F] := (c : Dev nD) → (b : Ref sig .tc) → Buf (Elt F) ((c : Thread nD τ).loc b)

variable (a : (pcfg0 (F := F)).Adm) (V : Bufs F) (hV : ∀ c, InRange (V c main_v0))

/-- The rounded rows. -/
def rowsOf (c : Dev nD) : Vec F S2048x1024 .bf16 := k0_pay1 (gathered (V c main_v0) (hV c) (V c main_arg1))

/-- The block of the second operand at point `t`, with `d` past the array's edge. -/
def blockAt (c : Dev nD) (t : Fin (cfg0 a).N) (d : S1024x1024.Idx → Elt F .f32) : S1024x1024.Idx → Elt F .f32 :=
  ((cfg0 a).win 0).fill (grid0.coords t) d ((((cfg0 a).win 0).blk t).view.read (Elt F) (V c main_arg2))

/-- Some contents. -/
def some0 : S1024x1024.Idx → Elt F .f32 := constant (F := F) S1024x1024 .f32 0x00000000#32

/-- The proof data on core `c`. -/
def dats (Z : Dev nD → sProp 𝕄) (_ : Fin 1) (c : Dev nD) : Dat τ (Elt F) Unit ℕ (Pipeline.UD sig nD τ) ℕ (cfg0 a) c where
  A w := V c (Pipeline.arrRef spec0 w)
  after w t := match w with
    | ⟨0, _⟩ => blockAt a V c t some0
    | ⟨1, _⟩ => k0_pay2 (rowsOf V hV c) (blockAt a V c t some0)
  Φ t := inv c (V c main_v0) (hV c) (V c main_arg1) (Z c) t.val
  q _ := fullShare
  owed _ := 0

theorem defs₀_row (t : Fin (cfg0 a).N) :
    defs₀ (F := F) .tc (cfg0 a).body ((cfg0 a).bodyArgs t ((cfg0 a).slots t))
      = body (grid0.coords t) (spec0_0.stage ((cfg0 a).slots t 0)) (hstage0_0 (((cfg0 a).slots t 0).cast nbuf0_0))
          (spec0_1.stage ((cfg0 a).slots t 1)) (hstage0_1 (((cfg0 a).slots t 1).cast nbuf0_1)) := by
  unfold defs₀; rw [Defs.onTc_tc]

/-- A block's number is the grid point's coordinate. -/
theorem transform_1 (i : grid0.Coords) : cc0_transform_1 i 1 = (i 0).val :=
  (BitVec.toNat_ofNat _ _).trans (Nat.mod_eq_of_lt ((i 0).isLt.trans (by decide)))

theorem transform_3 (i : grid0.Coords) : cc0_transform_3 i 1 = (i 0).val :=
  (BitVec.toNat_ofNat _ _).trans (Nat.mod_eq_of_lt ((i 0).isLt.trans (by decide)))

/-- Every point fetches its own block of the weights. -/
theorem fetchOf0 (t : Fin grid0.N) : Pipeline.Window.fetchOf grid0 false cc0_transform_1 t = true :=
  (Pipeline.Window.fetchOf_reads cc0_transform_1 reads0_0 hreads0_0 0 (by decide) (by decide)
    (fun i i' h => Fin.ext ((transform_1 i).symm.trans ((congrFun h 1).trans (transform_1 i')))) (P := 1) (by decide) t).mpr (Nat.mod_one _)

theorem fetch0 (t : Fin (cfg0 a).N) : ((cfg0 a).win 0).fetch t = true := fetchOf0 t

/-- Every point writes its own block of the logits back. -/
theorem flushOf1 (t : Fin grid0.N) : Pipeline.Window.flushOf grid0 true cc0_transform_3 t = true :=
  (Pipeline.Window.flushOf_reads cc0_transform_3 reads0_1 hreads0_1 0 (by decide) (by decide)
    (fun i i' h => Fin.ext ((transform_3 i).symm.trans ((congrFun h 1).trans (transform_3 i')))) (P := 1) (m := 0) (by decide) rfl t).mpr (Nat.mod_one _)

theorem flush1 (t : Fin (cfg0 a).N) : ((cfg0 a).win 1).flush t = true := flushOf1 t

theorem before0 (Z : Dev nD → sProp 𝕄) (c : Dev nD) (t : Fin (cfg0 a).N) (d : S1024x1024.Idx → Elt F .f32) :
    (dats a V hV Z 0 c).before 0 t d = blockAt a V c t d := by
  unfold Dat.before
  rw [fetch0 a t, if_pos rfl]
  rfl

/-- The body at point `t`, between the two invariants and from buffer to buffer. -/
theorem sound (Z : Dev nD → sProp 𝕄) (c : Dev nD) (t : Fin (cfg0 a).N) :
    iprop((dats a V hV Z 0 c).Φ t.castSucc ∗ (dats a V hV Z 0 c).owesAt () t.castSucc
        ∗ (∃ d, owns (c : Thread nD τ) (((cfg0 a).win 0).stage ((cfg0 a).slots t 0)) fullShare ((dats a V hV Z 0 c).before 0 t d))
        ∗ (∃ X, owns (c : Thread nD τ) (((cfg0 a).win 1).stage ((cfg0 a).slots t 1)) fullShare X))
      ⊢ wp frame (wpE (defs₀ (F := F)) Variants.none (c : Thread nD τ) none) Set.univ
        (body (grid0.coords t) (spec0_0.stage ((cfg0 a).slots t 0)) (hstage0_0 (((cfg0 a).slots t 0).cast nbuf0_0))
          (spec0_1.stage ((cfg0 a).slots t 1)) (hstage0_1 (((cfg0 a).slots t 1).cast nbuf0_1)))
        (fun _ => iprop((dats a V hV Z 0 c).Φ t.succ ∗ (dats a V hV Z 0 c).owesAt () t.succ
          ∗ (∃ d, owns (c : Thread nD τ) (((cfg0 a).win 0).stage ((cfg0 a).slots t 0)) fullShare (blockAt a V c t d)
            ∗ owns (c : Thread nD τ) (((cfg0 a).win 1).stage ((cfg0 a).slots t 1)) fullShare (k0_pay2 (rowsOf V hV c) (blockAt a V c t d))))) := by
  rw [show (dats a V hV Z 0 c).Φ t.castSucc = inv c (V c main_v0) (hV c) (V c main_arg1) (Z c) t.val from rfl,
    show (dats a V hV Z 0 c).Φ t.succ = inv c (V c main_v0) (hV c) (V c main_arg1) (Z c) (t.val + 1) from rfl]
  unfold Dat.owesAt Pipeline.owesWithin
  rw [show (dats a V hV Z 0 c).owed t.castSucc = 0 from rfl, show (dats a V hV Z 0 c).owed t.succ = 0 from rfl]
  iintro ⟨HI, ⟨%W, -, HO⟩, ⟨%d, H3⟩, H5⟩
  ihave H3 := (Entails.of_eq (congrArg (owns (c : Thread nD τ) (((cfg0 a).win 0).stage ((cfg0 a).slots t 0)) fullShare)
    (before0 a V hV Z c t d))) $$ H3
  iapply ((point c (V c main_v0) (hV c) (V c main_arg1) (spec0_0.stage ((cfg0 a).slots t 0)) (hstage0_0 (((cfg0 a).slots t 0).cast nbuf0_0))
    (spec0_1.stage ((cfg0 a).slots t 1)) (hstage0_1 (((cfg0 a).slots t 1).cast nbuf0_1)) (Z c) t (blockAt a V c t d)).trans (wp_wand _ _ _)) $$ [HI HO H3 H5]
  · isplitl [HI]; · iexact HI
    isplitl [HO]; · iexists W; iexact HO
    isplitl [H3]; · iexact H3
    iexact H5
  iintro %r ⟨HI, ⟨%W', HO⟩, H3, H5⟩
  isplitl [HI]; · iexact HI
  isplitl [HO]
  · iexists W'; isplitr; · ipureintro; exact fun _ _ => Or.inl trivial
    iexact HO
  iexists d
  isplitl [H3]; · iexact H3
  iexact H5

/-- The first buffer is handed back holding, on the part that moves, the block of the weights. -/
theorem given0 (Z : Dev nD → sProp 𝕄) (c : Dev nD) (t : Fin (cfg0 a).N) (d : S1024x1024.Idx → Elt F .f32) :
    owns (c : Thread nD τ) (((cfg0 a).win 0).stage ((cfg0 a).slots t 0)) fullShare (blockAt a V c t d)
      ⊢ iprop(∃ d, owns (c : Thread nD τ) (((cfg0 a).win 0).stage ((cfg0 a).slots t 0)) fullShare
          (((cfg0 a).win 0).fill ((cfg0 a).grid.coords t) d
            (((cfg0 a).win 0).cut ((cfg0 a).grid.coords t) ((dats a V hV Z 0 c).after 0 t))) : sProp 𝕄) := by
  iintro H
  iexists d
  iapply (Entails.of_eq (congrArg (owns (c : Thread nD τ) (((cfg0 a).win 0).stage ((cfg0 a).slots t 0)) fullShare)
    (congrArg (((cfg0 a).win 0).fill ((cfg0 a).grid.coords t) d)
      (Pipeline.Window.cut_fill ((cfg0 a).win 0) ((cfg0 a).grid.coords t) some0
        ((((cfg0 a).win 0).blk t).view.read (Elt F) (V c main_arg2))).symm)))
  iexact H

/-- The second buffer is handed back holding, on the part that moves, the product. -/
theorem given1 (Z : Dev nD → sProp 𝕄) (c : Dev nD) (t : Fin (cfg0 a).N) (d : S1024x1024.Idx → Elt F .f32)
    (hloc : ((cfg0 a).win 1).cut (grid0.coords t) (k0_pay2 (rowsOf V hV c) (blockAt a V c t d))
      = ((cfg0 a).win 1).cut (grid0.coords t) (k0_pay2 (rowsOf V hV c) (blockAt a V c t some0))) :
    owns (c : Thread nD τ) (((cfg0 a).win 1).stage ((cfg0 a).slots t 1)) fullShare (k0_pay2 (rowsOf V hV c) (blockAt a V c t d))
      ⊢ iprop(∃ d, owns (c : Thread nD τ) (((cfg0 a).win 1).stage ((cfg0 a).slots t 1)) fullShare
          (((cfg0 a).win 1).fill ((cfg0 a).grid.coords t) d
            (((cfg0 a).win 1).cut ((cfg0 a).grid.coords t) ((dats a V hV Z 0 c).after 1 t))) : sProp 𝕄) := by
  iintro H
  iexists (k0_pay2 (rowsOf V hV c) (blockAt a V c t d))
  iapply (Entails.of_eq (congrArg (owns (c : Thread nD τ) (((cfg0 a).win 1).stage ((cfg0 a).slots t 1)) fullShare)
    ((Pipeline.Window.fill_cut ((cfg0 a).win 1) ((cfg0 a).grid.coords t) (k0_pay2 (rowsOf V hV c) (blockAt a V c t d))).symm.trans
      (congrArg (((cfg0 a).win 1).fill ((cfg0 a).grid.coords t) (k0_pay2 (rowsOf V hV c) (blockAt a V c t d))) hloc))))
  iexact H

/-- What every point gives, with the second buffer unnamed. -/
theorem sound_forget (Z : Dev nD → sProp 𝕄) (c : Dev nD) (t : Fin (cfg0 a).N) :
    iprop((dats a V hV Z 0 c).Φ t.succ ∗ (dats a V hV Z 0 c).owesAt () t.succ
          ∗ (∃ d, owns (c : Thread nD τ) (((cfg0 a).win 0).stage ((cfg0 a).slots t 0)) fullShare (blockAt a V c t d)
            ∗ owns (c : Thread nD τ) (((cfg0 a).win 1).stage ((cfg0 a).slots t 1)) fullShare (k0_pay2 (rowsOf V hV c) (blockAt a V c t d))) : sProp 𝕄)
      ⊢ iprop((dats a V hV Z 0 c).Φ t.succ ∗ (dats a V hV Z 0 c).owesAt () t.succ
          ∗ (∃ d, owns (c : Thread nD τ) (((cfg0 a).win 0).stage ((cfg0 a).slots t 0)) fullShare
              (((cfg0 a).win 0).fill ((cfg0 a).grid.coords t) d
                (((cfg0 a).win 0).cut ((cfg0 a).grid.coords t) ((dats a V hV Z 0 c).after 0 t))))
          ∗ (∃ X, owns (c : Thread nD τ) (((cfg0 a).win 1).stage ((cfg0 a).slots t 1)) fullShare X)) := by
  iintro ⟨HI, HO, ⟨%d, H3, H5⟩⟩
  isplitl [HI]; · iexact HI
  isplitl [HO]; · iexact HO
  isplitl [H3]
  · iapply (given0 a V hV Z c t d)
    iexact H3
  iexists _
  iexact H5

/-- What every point gives, with both buffers named on the part that moves. -/
theorem sound_exact (Z : Dev nD → sProp 𝕄) (c : Dev nD) (t : Fin (cfg0 a).N)
    (hloc : ∀ d, ((cfg0 a).win 1).cut (grid0.coords t) (k0_pay2 (rowsOf V hV c) (blockAt a V c t d))
      = ((cfg0 a).win 1).cut (grid0.coords t) (k0_pay2 (rowsOf V hV c) (blockAt a V c t some0))) :
    iprop((dats a V hV Z 0 c).Φ t.succ ∗ (dats a V hV Z 0 c).owesAt () t.succ
          ∗ (∃ d, owns (c : Thread nD τ) (((cfg0 a).win 0).stage ((cfg0 a).slots t 0)) fullShare (blockAt a V c t d)
            ∗ owns (c : Thread nD τ) (((cfg0 a).win 1).stage ((cfg0 a).slots t 1)) fullShare (k0_pay2 (rowsOf V hV c) (blockAt a V c t d))) : sProp 𝕄)
      ⊢ iprop((dats a V hV Z 0 c).Φ t.succ ∗ (dats a V hV Z 0 c).owesAt () t.succ
          ∗ (∃ d, owns (c : Thread nD τ) (((cfg0 a).win 0).stage ((cfg0 a).slots t 0)) fullShare
              (((cfg0 a).win 0).fill ((cfg0 a).grid.coords t) d
                (((cfg0 a).win 0).cut ((cfg0 a).grid.coords t) ((dats a V hV Z 0 c).after 0 t))))
          ∗ (∃ d, owns (c : Thread nD τ) (((cfg0 a).win 1).stage ((cfg0 a).slots t 1)) fullShare
              (((cfg0 a).win 1).fill ((cfg0 a).grid.coords t) d
                (((cfg0 a).win 1).cut ((cfg0 a).grid.coords t) ((dats a V hV Z 0 c).after 1 t))))) := by
  iintro ⟨HI, HO, ⟨%d, H3, H5⟩⟩
  isplitl [HI]; · iexact HI
  isplitl [HO]; · iexact HO
  isplitl [H3]
  · iapply (given0 a V hV Z c t d)
    iexact H3
  iapply (given1 a V hV Z c t d (hloc d))
  iexact H5

/-- The obligation with the second window's buffer left unnamed. -/
theorem obligation_forget (Z : Dev nD → sProp 𝕄) (c : Dev nD) :
    Pipeline.BodyObligationLoose (dats a V hV Z 0 c) (defs₀ (F := F)) Variants.none () Set.univ (fun w => w == 1) := fun t => by
  rw [bigSep_W0, bigSep_W0, defs₀_row]
  exact (sound a V hV Z c t).trans (wp_mono _ _ _ fun _ => sound_forget a V hV Z c t)

/-- The obligation exactly, where what the product holds on the moved columns does not depend on what the block holds
    past the array's edge. -/
theorem obligation (Z : Dev nD → sProp 𝕄) (c : Dev nD)
    (hloc : ∀ t d, ((cfg0 a).win 1).cut (grid0.coords t) (k0_pay2 (rowsOf V hV c) (blockAt a V c t d))
      = ((cfg0 a).win 1).cut (grid0.coords t) (k0_pay2 (rowsOf V hV c) (blockAt a V c t some0))) :
    Pipeline.BodyObligationLoose (dats a V hV Z 0 c) (defs₀ (F := F)) Variants.none () Set.univ := fun t => by
  rw [bigSep_W0, bigSep_W0, defs₀_row]
  refine .trans ?_ ((sound a V hV Z c t).trans (wp_mono _ _ _ fun _ => sound_exact a V hV Z c t (hloc t)))
  iintro ⟨HI, HO, H3, ⟨%d, H5⟩⟩
  isplitl [HI]; · iexact HI
  isplitl [HO]; · iexact HO
  isplitl [H3]; · iexact H3
  iexists _; iexact H5

end Cert.KernelIdeal.Gather

end
-- ==== Proof.KernelIdeal.Frame.lean ====
/- The launch: what the region is entered with and left with, and the frame, every index lying in the table. -/
module

public import proofs.«01_k».proof.Proof.KernelIdeal.Data

@[expose] public section

set_option maxRecDepth 16384

noncomputable section

namespace Cert.KernelIdeal.Gather

open Cert.KernelIdeal Cert.KernelIdeal.Gen
open Idealize.ShloMosaic TcCoe
open Idealize.ShloMosaic.ValueIdx (ix1 ix2)
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {F : FTy → Type} [FloatOps F]
local notation "𝕄" => MT nD τ sig Unit (Elt F) ℕ U₀ ℕ

open Idealize.ShloMosaic.Pipeline (Dat)

variable (m : (ℓ : Loc nD τ sig) → Buf (Elt F) ℓ) (ρ : Dev nD → PrngReg)

/-- Every buffer's contents when the region begins: the index list has been laid out flat. -/
def entry (c : Dev nD) : Valuation τ sig (Elt F) := StableHlo.after hostOps0 (fun b => m (c, b))

abbrev V : Bufs F := fun c b => entry m c (Proc.devRef .tc b)

/-- The region's own index table. -/
def adm (_ : Fin 1) : (pcfg0 (F := F)).Adm := ⟨fun k => entry m ⟨0, by decide⟩ (Proc.devRef .tc (pre0.ref k)), trivial⟩

abbrev osem0 : Fin 2 → SemLoc sig := ![SemLoc.dma cc0_scratch2.sem, SemLoc.dma cc0_scratch3.sem]
theorem ownSemFacts0 : Pipeline.OwnSemFacts spec0 osem0 := by decide

theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch2.sem) 0 ∗ semVal ((c : Thread nD τ), SemLoc.dma cc0_scratch3.sem) 0) := by
  rw [Pipeline.ownSems0_eq_of_list c osem0 [0, 1] (by decide) (by decide)]; rfl

/-- The table of rows, which the body reads, -/
def H0 : Finset (Ref sig .tc) := {main_arg1}
/-- the gathered rows, which it writes, -/
def R0 : Finset (Ref sig .tc) := {main_v1_0}
/-- and the two results, laid out again after the region. -/
def T0 : Finset (Ref sig .tc) := {main_v2, main_v3}

theorem H0_sub : H0 ⊆ Pipeline.restRefsP sig pre0 spec0 := by decide
theorem R0_sub : R0 ⊆ Pipeline.restRefsP sig pre0 spec0 \ H0 := by decide

theorem read_eq (W : Bufs F) (c : Dev nD) :
    (bigSep H0 (fun b => ((c : Thread nD τ).loc b) ↦{fullShare} W c b) : sProp 𝕄)
      = iprop((c : Thread nD τ).loc main_arg1 ↦{fullShare} W c main_arg1) := by
  rw [BI.bigSep_eq_bigSepL_of_eq [main_arg1] (by decide) (by decide)]; rfl

theorem written_eq (W : Bufs F) (c : Dev nD) :
    (bigSep R0 (fun b => ((c : Thread nD τ).loc b) ↦{fullShare} W c b) : sProp 𝕄)
      = iprop((c : Thread nD τ).loc main_v1_0 ↦{fullShare} W c main_v1_0) := by
  rw [BI.bigSep_eq_bigSepL_of_eq [main_v1_0] (by decide) (by decide)]; rfl

theorem owned_eq (c : Dev nD) :
    (Pipeline.owned R0 c : sProp 𝕄) = iprop(∃ f : S2048x1024.Idx → Elt F .f32, (c : Thread nD τ).loc main_v1_0 ↦{fullShare} f) := by
  unfold Pipeline.owned; rw [BI.bigSep_eq_bigSepL_of_eq [main_v1_0] (by decide) (by decide)]; rfl

theorem table_eq (c : Dev nD) (v : pre0.Contents (Elt F)) :
    (Pipeline.ΦT pre0 v c : sProp 𝕄) = iprop((Memref.whole main_v0).view.loc (c : Thread nD τ) ↦{fullShare.right} v 0) := by
  unfold Pipeline.ΦT Pipeline.prefHeld
  rw [show (Finset.univ : Finset (Fin pre0.K)) = {0} from rfl, BI.bigSep_singleton]; rfl

/-- There is one core. -/
theorem dev_eq (c : Dev nD) : c = ⟨0, by decide⟩ := Subsingleton.elim (α := Fin 1) c _

theorem table_holds (c : Dev nD) (k : Fin pre0.K) : entry m c (Proc.devRef .tc (pre0.ref k)) = (adm m 0).1 k := by
  rw [dev_eq c]; rfl

variable (hV : ∀ c, InRange (V m c main_v0))

/-- The generator's register, at some value. -/
def gen (c : Dev nD) : sProp 𝕄 := iprop(∃ r, prngReg c r)

theorem scratch1_rounded (c : Dev nD) (f : S2048x1024.Idx → Elt F .bf16) :
    (iprop((c : Thread nD τ).loc cc0_scratch1 ↦{fullShare} f) : sProp 𝕄) = rounded c f := by
  unfold rounded; rw [owns_whole]

theorem enter (c : Dev nD) :
    iprop(Pipeline.ΦDR osem0 spec0 H0 R0 (V m) c ∗ Pipeline.ΦT pre0 (adm m 0).1 c) ⊢ (dats (adm m 0) (V m) hV gen 0 c).Φ 0 := by
  rw [show (dats (adm m 0) (V m) hV gen 0 c).Φ 0 = inv c (V m c main_v0) (hV c) (V m c main_arg1) (gen c) 0 from rfl, inv_zero,
    Pipeline.ΦDR_eq, scopedRest0_eq, ownSems0_eq, read_eq, owned_eq, table_eq,
    ← table_holds m c 0]
  unfold atStart gen
  iintro ⟨⟨⟨H0, ⟨%f, H1⟩⟩, Hg, ⟨Hq, Hq'⟩, HT, HR⟩, HX⟩
  isplitl [Hg]; · iexact Hg
  isplitl [H0]; · iexact H0
  isplitl [H1]
  · iexists f
    iapply (Entails.of_eq (scratch1_rounded c f)); iexact H1
  isplitl [Hq]; · iexact Hq
  isplitl [Hq']; · iexact Hq'
  isplitl [HT]; · iexact HT
  isplitl [HR]; · iexact HR
  iexact HX

theorem leave (c : Dev nD) :
    (dats (adm m 0) (V m) hV gen 0 c).Φ (Fin.last (cfg0 (adm m 0)).N) ⊢ Pipeline.ΦDR osem0 spec0 H0 R0 (V m) c := by
  rw [show (dats (adm m 0) (V m) hV gen 0 c).Φ (Fin.last (cfg0 (adm m 0)).N) = inv c (V m c main_v0) (hV c) (V m c main_arg1) (gen c) 49 from
      congrArg (inv c (V m c main_v0) (hV c) (V m c main_arg1) (gen c)) N_0, inv_last,
    Pipeline.ΦDR_eq, scopedRest0_eq, ownSems0_eq, read_eq, owned_eq]
  unfold atEnd gen
  iintro ⟨Hg, H0, H1, Hq, Hq', HT, HR, -⟩
  isplitl [H0 H1]
  · isplitl [H0]; · iexists _; iexact H0
    iexists _
    iapply (Entails.of_eq (scratch1_rounded c _).symm); iexact H1
  isplitl [Hg]; · iexact Hg
  isplitl [Hq Hq']
  · isplitl [Hq]; · iexact Hq
    iexact Hq'
  isplitl [HT]; · iexact HT
  iexists _; iexact HR

/-! ## The lines before and after the region -/

abbrev after1 : List (List (HloOp τ sig (Elt F))) := [hostOps1]

theorem hmain : Pipeline.HMainPK (Ix := Unit) (Name := ℕ) (U := Pipeline.UD sig nD τ) (Lvl := ℕ) (pcfgs (F := F)) 0 defs₀ Variants.none m
    (main (F := F)) (V m) (fun _ => Pipeline.chain (after1.map StableHlo.seq)) :=
  Pipeline.hmainP_around (pcfgs (F := F)) 0 defs₀ Variants.none m main [hostOps0] after1 (hostOps0_sub) rfl (fun c => main_chain c)

/-- A line may touch an array or a buffer that bypasses the region. -/
theorem mem_tail {b : Ref sig .tc} (h : b ∈ Finset.univ.image (Pipeline.arrRef spec0) ∪ Pipeline.restRefsP sig pre0 spec0) :
    Proc.devRef (τ := τ) .tc b ∈ Pipeline.tailRefs (τ := τ) sig pre0 spec0 :=
  Finset.mem_map_of_mem ⟨Proc.devRef (sig := sig) .tc, Proc.devRef_injective _⟩ h

theorem tail2_sub {x y : Ref sig .tc} (hx : x ∈ Finset.univ.image (Pipeline.arrRef spec0) ∪ Pipeline.restRefsP sig pre0 spec0)
    (hy : y ∈ Finset.univ.image (Pipeline.arrRef spec0) ∪ Pipeline.restRefsP sig pre0 spec0) :
    ({Proc.devRef (τ := τ) .tc x, Proc.devRef .tc y} : Finset (DevRef τ sig)) ⊆ Pipeline.tailRefs (τ := τ) sig pre0 spec0 :=
  Finset.insert_subset (mem_tail hx) (Finset.singleton_subset_iff.mpr (mem_tail hy))

/-- What holds of both lines after the region holds of each. -/
theorem after1_of {P : HloOp τ sig (Elt F) → Prop}
    (h2 : P (StableHlo.reshape main_v1_0 main_v2 (rfl : (.f32 : EltTy) = .f32) shapeCasts_S2048x1024_S1x2048x1024))
    (h3 : P (StableHlo.reshape main_v1_1 main_v3 (rfl : (.f32 : EltTy) = .f32) shapeCasts_S2048x50000_S1x2048x50000)) :
    ∀ ops ∈ (after1 : List (List (HloOp τ sig (Elt F)))), ∀ op ∈ ops, P op := fun ops ho op hop => by
  rw [List.mem_singleton.mp ho] at hop
  rcases List.mem_cons.mp hop with rfl | hop
  · exact h2
  · rw [List.mem_singleton.mp hop]; exact h3

theorem after1_sub : ∀ ops ∈ (after1 : List (List (HloOp τ sig (Elt F)))), ∀ op ∈ ops, op.bufs ⊆ Pipeline.tailRefs sig pre0 spec0 :=
  after1_of (by rw [StableHlo.reshape_bufs]; exact tail2_sub (by decide) (by decide)) (by rw [StableHlo.reshape_bufs]; exact tail2_sub (by decide) (by decide))

theorem after1_fresh : ∀ ops ∈ (after1 : List (List (HloOp τ sig (Elt F)))), ∀ op ∈ ops, op.fresh = ∅ := after1_of rfl rfl

theorem after1_keep : ∀ ops ∈ (after1 : List (List (HloOp τ sig (Elt F)))), ∀ op ∈ ops, ∀ w, Proc.devRef .tc (Pipeline.arrRef spec0 w) ∉ op.writes :=
  after1_of
    (fun w => by
      rw [StableHlo.reshape_writes, Finset.mem_singleton]
      exact fun h => (by decide : ∀ w, Pipeline.arrRef spec0 w ≠ main_v2) w (Proc.devRef_injective _ h))
    (fun w => by
      rw [StableHlo.reshape_writes, Finset.mem_singleton]
      exact fun h => (by decide : ∀ w, Pipeline.arrRef spec0 w ≠ main_v3) w (Proc.devRef_injective _ h))

theorem after1_writes : ∀ ops ∈ (after1 : List (List (HloOp τ sig (Elt F)))), ∀ op ∈ ops, ∀ b : Ref sig .tc, Proc.devRef .tc b ∈ op.writes → b ∈ T0 :=
  after1_of
    (fun b hb => by
      rw [StableHlo.reshape_writes, Finset.mem_singleton] at hb
      rw [Proc.devRef_injective _ hb]; decide)
    (fun b hb => by
      rw [StableHlo.reshape_writes, Finset.mem_singleton] at hb
      rw [Proc.devRef_injective _ hb]; decide)

/-- Every buffer but the flat index list is as it was when the region begins. -/
theorem entry_arg (c : Dev nD) (b : Ref sig .tc) (h : b ≠ main_v0) : V m c b = m ((c : Thread nD τ).loc b) :=
  StableHlo.after_of_writes_sub (W := [main_v0]) hostOps0 (fun b => m (c, b)) (StableHlo.forall_writes_sub_of_map rfl) (by simpa using h)

/-! ## The frame -/

set_option backward.isDefEq.respectTransparency.types false in
theorem run_forget : θ_run defs (onTc (τ := τ) (main (F := F))) (s₀ m ρ) (fun r =>
    Pipeline.RDat.FramePostR (cfg0 (adm m 0)) (fun c => (dats (adm m 0) (V m) hV gen 0 c).toRForget (fun w => w == 1)) (R0 ∪ T0) (V m) r ∧ r.2.sem = fun _ => 0) :=
  Pipeline.θ_run_frameP_dmaR_around_T_forget (pcfgs (F := F)) (adm m) (dats (adm m 0) (V m) hV gen) 0 launch0 osem0 defs₀ Variants.none (fun w => w == 1)
    ownSemFacts0 H0 R0 T0 H0_sub R0_sub m ρ main (fun c => obligation_forget (adm m 0) (V m) hV gen c)
    (fun c => (dats (adm m 0) (V m) hV gen 0 c).share_full fun _ => rfl) (fun _ _ => rfl) (entry m) after1 after1_sub after1_fresh after1_keep after1_writes
    (hmain m) (fun _ _ => rfl) (table_holds m) (enter m hV) (leave m hV) _ (fun _ h => h)

include hV in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run _ _ _).mono (fun r hr => ⟨fun c => ?_, hr.2⟩) (run_forget m ρ hV)
  refine ⟨?_, ?_, ?_, ?_⟩
  · exact ((hr.1 c).2 main_arg0 (show main_arg0 ∈ Pipeline.restRefs sig spec0 \ (R0 ∪ T0) by decide)).trans (entry_arg m c main_arg0 (by decide))
  · exact ((hr.1 c).2 main_arg1 (show main_arg1 ∈ Pipeline.restRefs sig spec0 \ (R0 ∪ T0) by decide)).trans (entry_arg m c main_arg1 (by decide))
  · exact (hr.1.arr_in c (0 : Fin 2) rfl).trans (entry_arg m c main_arg2 (by decide))
  · exact ((hr.1 c).2 main_arg3 (show main_arg3 ∈ Pipeline.restRefs sig spec0 \ (R0 ∪ T0) by decide)).trans (entry_arg m c main_arg3 (by decide))

end Cert.KernelIdeal.Gather

end
-- ==== Proof.KernelIdeal.Entry.lean ====
/- The flat index list, word by word: the argument's words in order. -/
module

public import proofs.«01_k».proof.Proof.KernelIdeal.Frame

@[expose] public section

set_option maxRecDepth 16384

noncomputable section

namespace Cert.KernelIdeal.Gather

open Cert.KernelIdeal Cert.KernelIdeal.Gen
open Idealize.ShloMosaic TcCoe
open Idealize.ShloMosaic.ValueIdx (ix1 ix2)

variable {F : FTy → Type} [FloatOps F]
variable (m : (ℓ : Loc nD τ sig) → Buf (Elt F) ℓ)

theorem entry_words (c : Dev nD) :
    V m c main_v0 = shapeCast S2048 (m ((c : Thread nD τ).loc main_arg0)) shapeCasts_S1x2048_S2048 := by
  show (StableHlo.reshape (τ := τ) (Val := Elt F) main_arg0 main_v0 rfl shapeCasts_S1x2048_S2048).result (fun b => m (c, b)) (Proc.devRef .tc main_v0) = _
  exact StableHlo.reshape_result' _ _ _ _ _

theorem inRange_entry (h : ∀ c : Dev nD, ∀ i, (m ((c : Thread nD τ).loc main_arg0) i : BitVec 32).toNat < 50000) (c : Dev nD) :
    InRange (V m c main_v0) := fun t => by
  rw [entry_words]
  exact h c _

end Cert.KernelIdeal.Gather

end
-- ==== Proof.Frames.lean ====
/- The frames: each program under the precondition its claim states. -/
module

public import proofs.«01_k».proof.Defs
public import proofs.«01_k».proof.Proof.Range
public import proofs.«01_k».proof.Proof.Kernel.Entry
public import proofs.«01_k».proof.Proof.KernelIdeal.Entry
public import proofs.«01_k».proof.Proof.Gen.ReferenceIdeal.Run
public import Idealize.ShloMosaic.Adequacy
public import Idealize.ShloMosaic.Init

@[expose] public section

namespace Cert.Frames

open Idealize.ShloMosaic Idealize.SL.Sem

theorem kernel : Cert.quiescent_Kernel := fun m ρ h =>
  Cert.Kernel.Gather.frame m ρ (Cert.Kernel.Gather.inRange_entry m fun c i => Cert.Range.in_range _ _ _ _ (h c) i)

theorem kernelIdeal : Cert.quiescent_KernelIdeal := fun m ρ h =>
  Cert.KernelIdeal.Gather.frame m ρ (Cert.KernelIdeal.Gather.inRange_entry m fun c i => Cert.Range.in_range _ _ _ _ (h c) i)

/-- The reference has no semaphores, and needs no precondition. -/
theorem referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem kernelIdeal_no_bias : Cert.quiescent_KernelIdeal_pre_in_range_no_bias := fun m ρ h =>
  Cert.KernelIdeal.Gather.frame m ρ (Cert.KernelIdeal.Gather.inRange_entry m fun c i => (Cert.Range.in_range_no_bias _ _ _ _ (h c)).1 i)

theorem referenceIdeal_no_bias : Cert.quiescent_ReferenceIdeal_pre_in_range_no_bias := fun m ρ _ => referenceIdeal m ρ trivial

end Cert.Frames

end
-- ==== Proof.KernelIdeal.Product.lean ====
/- The logits over the extended reals: block by block the pipeline writes the product of the gathered rows and the weights. -/
module

public import proofs.«01_k».proof.Proof.KernelIdeal.Entry
public import Idealize.ShloMosaic.Lib.MatmulPlain
public import Idealize.ShloMosaic.Lib.Pipeline.Value

@[expose] public section

set_option maxRecDepth 16384

noncomputable section

namespace Cert.KernelIdeal.Gather

open Cert.KernelIdeal Cert.KernelIdeal.Gen
open Idealize.ShloMosaic TcCoe
open Idealize.ShloMosaic.ValueIdx (ix1 ix2)
open Idealize.SL.BI (sProp)
open scoped BigOperators
open Idealize.ShloMosaic.Pipeline (Dat)

local notation "𝕄" => MT nD τ sig Unit (Elt Ideal) ℕ U₀ ℕ

/-- The body's product at row `r` and column `q`. -/
theorem product_apply (A : S2048x1024.Idx → Elt Ideal .f32) (B : S1024x1024.Idx → Elt Ideal .f32) (r : Fin 2048) (q : Fin 1024) :
    (k0_pay2 (F := Ideal) (k0_pay1 (F := Ideal) A) B (ix2 r q) : EReal) = ∑ k : Fin 1024, (A (ix2 r k) : EReal) * (B (ix2 k q) : EReal) := by
  have h := Ideal.matmul_plain_apply (M := 2048) (K := 1024) (N := 1024) (φ₁ := .bf16) (φ₂ := .bf16) none (k0_pay1 (F := Ideal) A)
    (truncf .bf16 B bitsLt_bf16_f32) (constant (F := Ideal) S2048x1024 .f32 0x00000000#32) r q
  refine Eq.trans (Eq.trans rfl h) ?_
  rw [show (constant (F := Ideal) S2048x1024 .f32 0x00000000#32 (ix2 r q) : EReal) = 0 from Ideal.ofBits_zero_f32, zero_add]
  refine Finset.sum_congr rfl fun k _ => ?_
  refine congrArg₂ (· * ·) ?_ rfl
  unfold k0_pay1
  exact congrFun (shapeCast_self _ _) _

/-! ## The blocks -/

theorem coords_val : ∀ t : Fin grid0.N, (grid0.coords t 0).val = t.val := by decide +kernel

/-- A point moves the columns of its block that lie in the array. -/
theorem lt_extent {x j : ℕ} (h : x * 1024 < 50000) : j < (Pipeline.Clip.of x 1024 50000).extent 1024 ↔ j < 1024 ∧ x * 1024 + j < 50000 := by
  unfold Pipeline.Clip.of
  split
  · show j < 1024 ↔ _; omega
  · show j < 50000 - x * 1024 ↔ _; omega

/-- and every row. -/
theorem extent_rows {x : ℕ} (d : ℕ) (h : x = 0) : (Pipeline.Clip.of x d d).extent d = d := by
  subst h; unfold Pipeline.Clip.of; rw [if_pos (by omega)]

variable (a : (pcfg0 (F := Ideal)).Adm) (V : Bufs Ideal) (hV : ∀ c, InRange (V c main_v0))

theorem start_lt (t : Fin (cfg0 a).N) : t.val * 1024 < 50000 := by
  have := lt_of_lt_of_eq t.isLt N_0; omega

theorem moved0 (t : Fin (cfg0 a).N) (k q : Fin 1024) (hq : t.val * 1024 + q.val < 50000) :
    ((cfg0 a).win 0).moved (grid0.coords t) (ix2 k q) = true := by
  refine (Pipeline.Window.moved_iff _ _ _).mpr fun x => ?_
  match x with
  | ⟨0, _⟩ => exact lt_of_lt_of_eq k.isLt (extent_rows 1024 rfl).symm
  | ⟨1, _⟩ =>
    show q.val < (Pipeline.Clip.of (cc0_transform_1 (grid0.coords t) 1) 1024 50000).extent 1024
    rw [transform_1, coords_val]
    exact (lt_extent (start_lt a t)).mpr ⟨q.isLt, hq⟩

/-- Inside the array a block holds the array's own columns, -/
theorem blockAt_apply (c : Dev nD) (t : Fin (cfg0 a).N) (d : S1024x1024.Idx → Elt Ideal .f32) (k q : Fin 1024) (hq : t.val * 1024 + q.val < 50000) :
    blockAt a V c t d (ix2 k q) = V c main_arg2 (ix2 k ⟨t.val * 1024 + q.val, hq⟩) := by
  refine (dif_pos (moved0 a t k q hq)).trans ?_
  refine (View.read_apply _ _).trans (congrArg (V c main_arg2) ?_)
  funext x
  refine Fin.ext ?_
  refine (Pipeline.Window.rect_emb_val ((cfg0 a).win 0) t _ x rfl).trans ?_
  match x with
  | ⟨0, _⟩ => show 0 * 1024 + k.val = k.val; omega
  | ⟨1, _⟩ =>
    show cc0_transform_1 (grid0.coords t) 1 * 1024 + q.val = t.val * 1024 + q.val
    rw [transform_1, coords_val]

/-- The logits: row `r` of the gathered rows times column `v` of the weights. -/
def logits (c : Dev nD) : S2048x50000.Idx → EReal := fun y =>
  ∑ k : Fin 1024, (gathered (V c main_v0) (hV c) (V c main_arg1) (ix2 (y 0) k) : EReal) * (V c main_arg2 (ix2 k (y 1)) : EReal)

theorem moved1 (t : Fin (cfg0 a).N) (j : (((cfg0 a).win 1).xblock (grid0.coords t)).Idx) :
    (j (0 : Fin 2)).val < 2048 ∧ (j (1 : Fin 2)).val < 1024 ∧ t.val * 1024 + (j (1 : Fin 2)).val < 50000 := by
  have h0 : (j (0 : Fin 2)).val < (Pipeline.Clip.of 0 2048 2048).extent 2048 := (j (0 : Fin 2)).isLt
  have h1 : (j (1 : Fin 2)).val < (Pipeline.Clip.of (cc0_transform_3 (grid0.coords t) 1) 1024 50000).extent 1024 := (j (1 : Fin 2)).isLt
  rw [extent_rows 2048 rfl] at h0
  rw [transform_3, coords_val, lt_extent (start_lt a t)] at h1
  exact ⟨h0, h1⟩

/-- so what a point writes back is its columns of the logits, whatever lies past the array's edge. -/
theorem written_apply (c : Dev nD) (t : Fin (cfg0 a).N) (d : S1024x1024.Idx → Elt Ideal .f32)
    (j : (((cfg0 a).win 1).xblock (grid0.coords t)).Idx) :
    ((cfg0 a).win 1).cut (grid0.coords t) (k0_pay2 (rowsOf V hV c) (blockAt a V c t d)) j
      = logits V hV c (ix2 ⟨(j (0 : Fin 2)).val, (moved1 a t j).1⟩ ⟨t.val * 1024 + (j (1 : Fin 2)).val, (moved1 a t j).2.2⟩) := by
  have e : ((cfg0 a).win 1).xinj (grid0.coords t) j = ix2 (⟨(j (0 : Fin 2)).val, (moved1 a t j).1⟩ : Fin 2048) (⟨(j (1 : Fin 2)).val, (moved1 a t j).2.1⟩ : Fin 1024) := by
    funext x; match x with | ⟨0, _⟩ => rfl | ⟨1, _⟩ => rfl
  show k0_pay2 (rowsOf V hV c) (blockAt a V c t d) (((cfg0 a).win 1).xinj (grid0.coords t) j) = _
  rw [e]
  refine (product_apply _ _ _ _).trans ?_
  unfold logits
  refine Finset.sum_congr rfl fun k _ => ?_
  exact congrArg₂ (· * ·) rfl (blockAt_apply a V c t d k ⟨(j (1 : Fin 2)).val, (moved1 a t j).2.1⟩ (moved1 a t j).2.2)

theorem flushed_logits (Z : Dev nD → sProp 𝕄) (c : Dev nD) (t : Fin (cfg0 a).N) :
    (dats a V hV Z 0 c).flushed 1 t = (((cfg0 a).win 1).blk t).view.read (Elt Ideal) (logits V hV c) := by
  funext j
  refine (written_apply a V hV c t some0 j).trans (Eq.symm ?_)
  refine (View.read_apply _ _).trans (congrArg (logits V hV c) ?_)
  funext x
  refine Fin.ext ?_
  refine (Pipeline.Window.rect_emb_val ((cfg0 a).win 1) t j x rfl).trans ?_
  match x with
  | ⟨0, _⟩ => show 0 * 2048 + (j (0 : Fin 2)).val = (j (0 : Fin 2)).val; omega
  | ⟨1, _⟩ =>
    show cc0_transform_3 (grid0.coords t) 1 * 1024 + (j (1 : Fin 2)).val = t.val * 1024 + (j (1 : Fin 2)).val
    rw [transform_3, coords_val]

/-- The blocks cover the array. -/
theorem cover (i : S2048x50000.Idx) : ∃ t : Fin (cfg0 a).N, ((cfg0 a).win 1).flush t = true ∧ i ∈ (((cfg0 a).win 1).blk t).view.set := by
  have h0 : (i 0).val < 2048 := (i 0).isLt
  have h1 : (i 1).val < 50000 := (i 1).isLt
  have ht : (i 1).val / 1024 < (cfg0 a).N := lt_of_lt_of_eq (by omega) N_0.symm
  refine ⟨⟨(i 1).val / 1024, ht⟩, flush1 a _, ?_⟩
  show i ∈ ((View.whole main_v1_1).slice (((cfg0 a).win 1).rect ⟨(i 1).val / 1024, ht⟩)).set
  refine (congrArg (i ∈ ·) (View.set_slice_whole main_v1_1 _)).mpr (Rect.mem_set_unit.mpr fun x => ?_)
  match x with
  | ⟨0, _⟩ =>
    show 0 * 2048 ≤ (i 0).val ∧ (i 0).val < 0 * 2048 + (Pipeline.Clip.of 0 2048 2048).extent 2048
    rw [extent_rows 2048 rfl]; omega
  | ⟨1, _⟩ =>
    show cc0_transform_3 (grid0.coords ⟨(i 1).val / 1024, ht⟩) 1 * 1024 ≤ (i 1).val
      ∧ (i 1).val < cc0_transform_3 (grid0.coords ⟨(i 1).val / 1024, ht⟩) 1 * 1024
          + (Pipeline.Clip.of (cc0_transform_3 (grid0.coords ⟨(i 1).val / 1024, ht⟩) 1) 1024 50000).extent 1024
    rw [transform_3, coords_val]
    have := (lt_extent (x := (i 1).val / 1024) (j := (i 1).val % 1024) (by omega)).mpr ⟨by omega, by omega⟩
    dsimp only at this ⊢
    omega

/-- So the array ends holding the logits. -/
theorem final_logits (Z : Dev nD → sProp 𝕄) (c : Dev nD) : (dats a V hV Z 0 c).arrAt 1 (cfg0 a).N = logits V hV c :=
  (dats a V hV Z 0 c).arrAt_eq_of_cover 1 (logits V hV c) (fun t _ => flushed_logits a V hV Z c t) (cover a)

/-- The body meets its obligation exactly. -/
theorem obligation_exact (Z : Dev nD → sProp 𝕄) (c : Dev nD) :
    Pipeline.BodyObligationLoose (dats a V hV Z 0 c) (defs₀ (F := Ideal)) Variants.none () Set.univ :=
  obligation a V hV Z c fun t d => funext fun j => (written_apply a V hV c t d j).trans (written_apply a V hV c t some0 j).symm

end Cert.KernelIdeal.Gather

end
-- ==== Proof.KernelIdeal.Run.lean ====
/- The launch, run for its results: the gathered rows and the logits. -/
module

public import proofs.«01_k».proof.Proof.KernelIdeal.Product
public import Idealize.ShloMosaic.Lib.Pipeline.FrameSuffixV
public import Idealize.ShloMosaic.Lib.StableHlo.Run

@[expose] public section

set_option maxRecDepth 16384

noncomputable section

namespace Cert.KernelIdeal.Gather

open Cert.KernelIdeal Cert.KernelIdeal.Gen
open Idealize.ShloMosaic TcCoe
open Idealize.ShloMosaic.ValueIdx (ix1 ix2)
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic
open Idealize.ShloMosaic.Pipeline (Dat)

local notation "𝕄" => MT nD τ sig Unit (Elt Ideal) ℕ U₀ ℕ

variable (m : (ℓ : Loc nD τ sig) → Buf (Elt Ideal) ℓ) (ρ : Dev nD → PrngReg) (hV : ∀ c, InRange (V m c main_v0))

/-- The region keeps nothing beside its buffers and semaphores. -/
def nothing (_ : Dev nD) : sProp 𝕄 := BI.emp

/-- The written buffer ends holding the gathered rows. -/
def left (c : Dev nD) : (b : Ref sig .tc) → Buf (Elt Ideal) ((c.tc : Thread nD τ).loc b) :=
  Function.update (V m c) main_v1_0 (gathered (V m c main_v0) (hV c) (V m c main_arg1))

theorem left_rows (c : Dev nD) : left m hV c main_v1_0 = gathered (V m c main_v0) (hV c) (V m c main_arg1) :=
  Function.update_self _ _ _

theorem enterV (c : Dev nD) :
    iprop(Pipeline.ΦDRV osem0 spec0 H0 R0 (V m) (V m) c ∗ Pipeline.ΦT pre0 (adm m 0).1 c) ⊢ (dats (adm m 0) (V m) hV nothing 0 c).Φ 0 := by
  rw [show (dats (adm m 0) (V m) hV nothing 0 c).Φ 0 = inv c (V m c main_v0) (hV c) (V m c main_arg1) (nothing c) 0 from rfl, inv_zero]
  unfold Pipeline.ΦDRV
  rw [scopedRest0_eq, ownSems0_eq, read_eq, written_eq, table_eq, ← table_holds m c 0]
  unfold atStart nothing
  iintro ⟨⟨⟨H0, ⟨%f, H1⟩⟩, ⟨Hq, Hq'⟩, HT, HR⟩, HX⟩
  isplitr; · iempintro
  isplitl [H0]; · iexact H0
  isplitl [H1]
  · iexists f
    iapply (Entails.of_eq (scratch1_rounded c f)); iexact H1
  isplitl [Hq]; · iexact Hq
  isplitl [Hq']; · iexact Hq'
  isplitl [HT]; · iexact HT
  isplitl [HR]; · iexists _; iexact HR
  iexact HX

theorem leaveV (c : Dev nD) :
    (dats (adm m 0) (V m) hV nothing 0 c).Φ (Fin.last (cfg0 (adm m 0)).N) ⊢ Pipeline.ΦDRV osem0 spec0 H0 R0 (V m) (left m hV) c := by
  rw [show (dats (adm m 0) (V m) hV nothing 0 c).Φ (Fin.last (cfg0 (adm m 0)).N) = inv c (V m c main_v0) (hV c) (V m c main_arg1) (nothing c) 49 from
      congrArg (inv c (V m c main_v0) (hV c) (V m c main_arg1) (nothing c)) N_0, inv_last]
  unfold Pipeline.ΦDRV
  rw [scopedRest0_eq, ownSems0_eq, read_eq, written_eq, left_rows]
  unfold atEnd
  iintro ⟨-, H0, H1, Hq, Hq', HT, HR, -⟩
  isplitl [H0 H1]
  · isplitl [H0]; · iexists _; iexact H0
    iexists _
    iapply (Entails.of_eq (scratch1_rounded c _).symm); iexact H1
  isplitl [Hq Hq']
  · isplitl [Hq]; · iexact Hq
    iexact Hq'
  isplitl [HT]; · iexact HT
  iexact HR

/-- Every buffer when the region has ended. -/
abbrev exit (c : Dev nD) : Valuation τ sig (Elt Ideal) :=
  Pipeline.withArrays spec0 c (Pipeline.withR (entry m c) R0 c (left m hV c)) fun w => (dats (adm m 0) (V m) hV nothing 0 c).arrAt w (cfg0 (adm m 0)).N

set_option backward.isDefEq.respectTransparency.types false in
theorem run_exit : θ_run defs (onTc (τ := τ) (main (F := Ideal))) (s₀ m ρ) (fun r => ∀ c : Dev nD,
    (∀ w, r.2.mem ((spec0 w).arr.view.loc (c.tc : Thread nD τ)) = (dats (adm m 0) (V m) hV nothing 0 c).arrAt w (cfg0 (adm m 0)).N)
      ∧ ∀ b ∈ Pipeline.restRefsP sig pre0 spec0, r.2.mem ((c.tc : Thread nD τ).loc b) = StableHlo.after hostOps1 (exit m hV c) (Proc.devRef .tc b)) :=
  Pipeline.θ_run_frameP_dmaR_aroundV (pcfgs (F := Ideal)) (adm m) (dats (adm m 0) (V m) hV nothing) 0 launch0 osem0 defs₀ Variants.none
    ownSemFacts0 H0 R0 H0_sub R0_sub m ρ main (fun c => obligation_exact (adm m 0) (V m) hV nothing c)
    (fun c => (dats (adm m 0) (V m) hV nothing 0 c).share_full fun _ => rfl) (fun _ _ => rfl) (entry m) after1 after1_sub after1_fresh after1_keep
    (left m hV) (hmain m) (fun _ _ => rfl) (table_holds m) (enterV m hV) (leaveV m hV) _ (fun _ h => h.1)

/-! ## Reading the buffers -/

theorem arrRef_inj : Function.Injective (Pipeline.arrRef spec0) := by decide

theorem exit_rows (c : Dev nD) : exit m hV c (Proc.devRef .tc main_v1_0) = gathered (V m c main_v0) (hV c) (V m c main_arg1) :=
  (Pipeline.withArrays_of_ne spec0 c _ _ main_v1_0 (by decide)).trans
    ((Pipeline.withR_of_mem _ R0 c _ main_v1_0 (by decide)).trans (left_rows m hV c))

theorem exit_logits (c : Dev nD) : exit m hV c (Proc.devRef .tc main_v1_1) = logits (V m) hV c :=
  (Pipeline.withArrays_arr spec0 arrRef_inj c _ _ 1).trans (final_logits (adm m 0) (V m) hV nothing c)

theorem exit_arg (c : Dev nD) (b : Ref sig .tc) (h1 : ∀ w, Pipeline.arrRef spec0 w ≠ b) (h2 : b ∉ R0) (h3 : b ≠ main_v0) :
    exit m hV c (Proc.devRef .tc b) = m ((c : Thread nD τ).loc b) :=
  (Pipeline.withArrays_of_ne spec0 c _ _ b h1).trans ((Pipeline.withR_of_not_mem _ R0 c _ b h2).trans (entry_arg m c b h3))

theorem after_v2 (E : Valuation τ sig (Elt Ideal)) :
    StableHlo.after hostOps1 E (Proc.devRef .tc main_v2) = shapeCast S1x2048x1024 (E (Proc.devRef .tc main_v1_0)) shapeCasts_S2048x1024_S1x2048x1024 := by
  show (StableHlo.reshape (τ := τ) (Val := Elt Ideal) main_v1_1 main_v3 rfl shapeCasts_S2048x50000_S1x2048x50000).result
    ((StableHlo.reshape (τ := τ) (Val := Elt Ideal) main_v1_0 main_v2 rfl shapeCasts_S2048x1024_S1x2048x1024).result E) (Proc.devRef .tc main_v2) = _
  exact (StableHlo.reshape_result_ne' _ _ _ _ _ (by decide)).trans (StableHlo.reshape_result' _ _ _ _ _)

theorem after_v3 (E : Valuation τ sig (Elt Ideal)) :
    StableHlo.after hostOps1 E (Proc.devRef .tc main_v3) = shapeCast S1x2048x50000 (E (Proc.devRef .tc main_v1_1)) shapeCasts_S2048x50000_S1x2048x50000 := by
  show (StableHlo.reshape (τ := τ) (Val := Elt Ideal) main_v1_1 main_v3 rfl shapeCasts_S2048x50000_S1x2048x50000).result
    ((StableHlo.reshape (τ := τ) (Val := Elt Ideal) main_v1_0 main_v2 rfl shapeCasts_S2048x1024_S1x2048x1024).result E) (Proc.devRef .tc main_v3) = _
  refine (StableHlo.reshape_result' _ _ _ _ _).trans ?_
  exact congrArg (fun f => shapeCast S1x2048x50000 f shapeCasts_S2048x50000_S1x2048x50000) (StableHlo.reshape_result_ne' _ _ _ _ _ (by decide))

theorem after_arg (E : Valuation τ sig (Elt Ideal)) (b : Ref sig .tc) (h2 : b ≠ main_v2) (h3 : b ≠ main_v3) :
    StableHlo.after hostOps1 E (Proc.devRef .tc b) = E (Proc.devRef .tc b) :=
  StableHlo.after_of_writes_sub (W := [main_v2, main_v3]) hostOps1 E (StableHlo.forall_writes_sub_of_map rfl) (by simp [h2, h3])

include hV in
/-- The results of a run, and the arguments as they were. -/
theorem run : θ_run defs (onTc (τ := τ) (main (F := Ideal))) ⟨m, fun _ => 0, ρ⟩ (fun r => ∀ c : Dev nD,
      r.2.mem ((c.tc : Thread nD τ).loc main_v2)
        = shapeCast S1x2048x1024 (gathered (V m c main_v0) (hV c) (V m c main_arg1)) shapeCasts_S2048x1024_S1x2048x1024
      ∧ r.2.mem ((c.tc : Thread nD τ).loc main_v3) = shapeCast S1x2048x50000 (logits (V m) hV c) shapeCasts_S2048x50000_S1x2048x50000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r hr c => ?_) (run_exit m ρ hV)
  have rest : ∀ b : Ref sig .tc, b ∈ Pipeline.restRefsP sig pre0 spec0 → (∀ w, Pipeline.arrRef spec0 w ≠ b) → b ∉ R0 → b ≠ main_v0 → b ≠ main_v2 → b ≠ main_v3 →
      r.2.mem ((c.tc : Thread nD τ).loc b) = m ((c.tc : Thread nD τ).loc b) := fun b hb h1 h2 h3 h4 h5 =>
    ((hr c).2 b hb).trans ((after_arg _ b h4 h5).trans (exit_arg m hV c b h1 h2 h3))
  refine ⟨?_, ?_, ?_, ?_, ?_, ?_⟩
  · refine ((hr c).2 main_v2 (by decide)).trans ((after_v2 _).trans ?_)
    rw [exit_rows]
  · refine ((hr c).2 main_v3 (by decide)).trans ((after_v3 _).trans ?_)
    rw [exit_logits]
  · exact rest main_arg0 (by decide) (by decide) (by decide) (by decide) (by decide) (by decide)
  · exact rest main_arg1 (by decide) (by decide) (by decide) (by decide) (by decide) (by decide)
  · exact ((hr c).1 0).trans (((dats (adm m 0) (V m) hV nothing 0 c).arrAt_in 0 rfl _).trans (entry_arg m c main_arg2 (by decide)))
  · exact rest main_arg3 (by decide) (by decide) (by decide) (by decide) (by decide) (by decide)

end Cert.KernelIdeal.Gather

end
-- ==== Proof.ReferenceValue.lean ====
/- The reference's two results, read at an index: the table's rows at indices in range, and their products with the
   weights' columns where the bias is zero. -/
module

public import proofs.«01_k».proof.Proof.Gen.ReferenceIdeal.Run
public import proofs.«01_k».proof.Proof.Range
public import Idealize.ShloMosaic.Lib.ReduceAll
public import Idealize.ShloMosaic.Lib.ValueIdx
public import Idealize.ShloMosaic.PureOps.Ideal.Laws

@[expose] public section

set_option maxRecDepth 16384

noncomputable section

namespace Cert.ReferenceIdeal.Take

open Cert.ReferenceIdeal Cert.ReferenceIdeal.Gen
open Idealize.ShloMosaic
open Idealize.ShloMosaic.ValueIdx (ix1 ix2 ix3 eq_ix3)

/-! ## Words below 50000, read signed -/

theorem ofBool_one {p : Bool} (h : p = true) : BitVec.ofBool p = 1#1 := by subst h; rfl
theorem ofBool_zero {p : Bool} (h : p = false) : BitVec.ofBool p = 0#1 := by subst h; rfl

theorem toInt_word (v : BitVec 32) (h : v.toNat < 50000) : v.toInt = v.toNat := BitVec.toInt_eq_toNat_of_lt (by omega)

theorem not_neg (v : BitVec 32) (h : v.toNat < 50000) : IntOp.cmpi .slt v 0#32 = 0#1 :=
  ofBool_zero (by simp only [BitVec.slt, toInt_word v h, decide_eq_false_iff_not]; simp)

theorem nonneg (v : BitVec 32) (h : v.toNat < 50000) : IntOp.cmpi .sge v 0#32 = 1#1 :=
  ofBool_one (by simp only [BitVec.sle, toInt_word v h, decide_eq_true_eq]; simp)

theorem le_last (v : BitVec 32) (h : v.toNat < 50000) : IntOp.cmpi .sle v 49999#32 = 1#1 :=
  ofBool_one (by
    simp only [BitVec.sle, toInt_word v h, decide_eq_true_eq]
    rw [show (49999#32 : BitVec 32).toInt = 49999 from by decide]; omega)

/-! ## The rows -/

section Rows
variable {F : FTy → Type} [FloatOps F]
variable (ix : IVec S1x2048 32) (T : FVec F S50000x1024 .f32)

/-- A place gives the row a slice starts at, and the whole row is taken. -/
theorem starts_rows : (0 : Fin 2) ∈ gather_S50000x1024_S1x2048x1_S1x2048x1024_2_0_n_n_0_2_11024.startIndexMap := List.mem_singleton.mpr rfl
theorem not_starts_columns : (1 : Fin 2) ∉ gather_S50000x1024_S1x2048x1_S1x2048x1024_2_0_n_n_0_2_11024.startIndexMap := show (1 : Fin 2) ∉ ([0] : List (Fin 2)) by decide

/-- The index list as the rows are taken at it: a negative index counts from the end. -/
abbrev places : IVec S1x2048x1 32 :=
  broadcastInDim S1x2048x1 ![0, 1] bcast_S1x2048_S1x2048x1_0_1
    (select (cmpi .slt ix (broadcastInDim S1x2048 ![] bcast_S_S1x2048 (constantI S_ 32 0#32)))
      (addi ix (broadcastInDim S1x2048 ![] bcast_S_S1x2048 (constantI S_ 32 50000#32))) ix)

/-- The rows taken: those whose index is in range, and a filler elsewhere. -/
abbrev taken : FVec F S1x2048x1024 .f32 :=
  select (broadcastInDim S1x2048x1024 ![0, 1] bcast_S1x2048_S1x2048x1024_0_1
      (Host.reduce IntOp.andi
        (andi (cmpi .sge (places ix) (broadcastInDim S1x2048x1 ![] bcast_S_S1x2048x1 (constantI S_ 32 0#32)))
          (cmpi .sle (places ix) (broadcastInDim S1x2048x1 ![0, 1, 2] bcast_S1x1x1_S1x2048x1_0_1_2
            (broadcastInDim S1x1x1 ![2] bcast_S1_S1x1x1_2 (constantI S1 32 49999#32)))))
        (constantI S_ 1 1#1) reducesTo_S1x2048x1_S1x2048_d2 h_S_))
    (Host.gather gather_S50000x1024_S1x2048x1_S1x2048x1024_2_0_n_n_0_2_11024 T (places ix))
    (broadcastInDim S1x2048x1024 ![] bcast_S_S1x2048x1024 (constant S_ .f32 0x7FC00000#32))

variable (hix : ∀ i, (ix i).toNat < 50000)
include hix

/-- An index in range is taken as it is. -/
theorem places_eq (i : S1x2048x1.Idx) : places ix i = ix (ix2 0 (i 1)) := by
  have e : ∀ j, Scalar.select (IntOp.cmpi .slt (ix j) 0#32) (IntOp.addi (ix j) 50000#32) (ix j) = ix j := fun j => by
    rw [not_neg _ (hix j)]; exact if_neg (by decide)
  refine Eq.trans (b := ix _) (e _) (congrArg ix ?_)
  funext a
  match a with
  | ⟨0, _⟩ => rfl
  | ⟨1, _⟩ => rfl

/-- The gather at place `(0, r)` and column `k`: the table's row the place names. -/
theorem gather_apply (r : Fin 2048) (k : Fin 1024) :
    Host.gather gather_S50000x1024_S1x2048x1_S1x2048x1024_2_0_n_n_0_2_11024 T (places ix) (ix3 0 r k)
      = T (ix2 ⟨(ix (ix2 0 r)).toNat, hix _⟩ k) := by
  unfold Host.gather
  refine congrArg T ?_
  funext a
  refine Fin.ext ?_
  show GatherDims.start _ (ix3 0 r k) (places ix) a + GatherDims.batchCoord _ (ix3 0 r k) a + GatherDims.offCoord _ (ix3 0 r k) a = _
  rw [GatherDims.batchCoord_eq_zero _ _ _ List.not_mem_nil]
  have axis : a = 0 ∨ a = 1 := by
    match a with
    | ⟨0, _⟩ => exact Or.inl rfl
    | ⟨1, _⟩ => exact Or.inr rfl
  rcases axis with rfl | rfl
  · rw [GatherDims.offCoord_eq_zero _ _ _ (fun h => ((GatherDims.mem_sKept _ _).mp h).1 (List.mem_singleton.mpr rfl))]
    unfold GatherDims.start
    rw [dif_pos starts_rows, places_eq ix hix]
    show min (ix (ix2 0 r)).toInt.toNat (50000 - 1) + 0 + 0 = (ix (ix2 0 r)).toNat
    rw [toInt_word _ (hix _), Int.toNat_natCast]
    have := hix (ix2 0 r)
    omega
  · unfold GatherDims.start GatherDims.offCoord
    rw [dif_neg not_starts_columns,
      dif_pos ((GatherDims.mem_sKept _ _).mpr ⟨show (1 : Fin 2) ∉ ([0] : List (Fin 2)) by decide, List.not_mem_nil⟩)]
    show 0 + 0 + k.val = k.val
    omega

theorem taken_apply (r : Fin 2048) (k : Fin 1024) : taken ix T (ix3 0 r k) = T (ix2 ⟨(ix (ix2 0 r)).toNat, hix _⟩ k) := by
  have mask : ∀ j, Host.reduce IntOp.andi
        (andi (cmpi .sge (places ix) (broadcastInDim S1x2048x1 ![] bcast_S_S1x2048x1 (constantI S_ 32 0#32)))
          (cmpi .sle (places ix) (broadcastInDim S1x2048x1 ![0, 1, 2] bcast_S1x1x1_S1x2048x1_0_1_2
            (broadcastInDim S1x1x1 ![2] bcast_S1_S1x1x1_2 (constantI S1 32 49999#32)))))
        (constantI S_ 1 1#1) reducesTo_S1x2048x1_S1x2048_d2 h_S_ j = 1#1 := fun j =>
    Host.reduce_andi_one _ _ _ _ j rfl fun i => by
      refine IntOp.andi_eq_one.2 ⟨?_, ?_⟩
      · show IntOp.cmpi .sge (places ix i) 0#32 = 1#1
        rw [places_eq ix hix]; exact nonneg _ (hix _)
      · show IntOp.cmpi .sle (places ix i) 49999#32 = 1#1
        rw [places_eq ix hix]; exact le_last _ (hix _)
  exact (if_pos (mask _)).trans (gather_apply ix T hix r k)

end Rows

/-! ## The logits -/

/-- Rows times weights, plus the bias, at place `(0, r)` and column `v`. -/
abbrev scores (H : FVec Ideal S1x2048x1024 .f32) (W : FVec Ideal S1024x50000 .f32) (b : FVec Ideal S50000 .f32) : FVec Ideal S1x2048x50000 .f32 :=
  addf (Host.dotGeneral dot_S1x2048x1024_S1024x50000_S1x2048x50000_2_0_01_1_n_n none H W)
    (broadcastInDim S1x2048x50000 ![0, 1, 2] bcast_S1x1x50000_S1x2048x50000_0_1_2 (broadcastInDim S1x1x50000 ![2] bcast_S50000_S1x1x50000_2 b))

theorem dot_apply (H : FVec Ideal S1x2048x1024 .f32) (W : FVec Ideal S1024x50000 .f32) (r : Fin 2048) (v : Fin 50000) :
    (Host.dotGeneral dot_S1x2048x1024_S1024x50000_S1x2048x50000_2_0_01_1_n_n none H W (ix3 0 r v) : EReal)
      = ∑ k : Fin 1024, (H (ix3 0 r k) : EReal) * (W (ix2 k v) : EReal) := by
  show FloatOps.dotGeneral _ none _ H W (ix3 0 r v) = _
  rw [Ideal.dotGeneral_apply, ← Equiv.sum_comp (ValueIdx.contrEquiv1 dot_S1x2048x1024_S1024x50000_S1x2048x50000_2_0_01_1_n_n 1024 rfl rfl).symm]
  refine Finset.sum_congr rfl fun k _ => ?_
  have hk := ValueIdx.contrEquiv1_symm_val dot_S1x2048x1024_S1024x50000_S1x2048x50000_2_0_01_1_n_n 1024 rfl rfl k
  refine congrArg₂ (· * ·) (congrArg H ?_) (congrArg W ?_)
  · funext a; refine Fin.ext ?_
    match a with
    | ⟨0, _⟩ => rfl
    | ⟨1, _⟩ => rfl
    | ⟨2, _⟩ => exact hk
  · funext a; refine Fin.ext ?_
    match a with
    | ⟨0, _⟩ => exact hk
    | ⟨1, _⟩ => rfl

theorem scores_apply (H : FVec Ideal S1x2048x1024 .f32) (W : FVec Ideal S1024x50000 .f32) (b : FVec Ideal S50000 .f32)
    (hb : ∀ j, (b j : EReal) = 0) (r : Fin 2048) (v : Fin 50000) :
    (scores H W b (ix3 0 r v) : EReal) = ∑ k : Fin 1024, (H (ix3 0 r k) : EReal) * (W (ix2 k v) : EReal) := by
  refine Eq.trans (b := (Host.dotGeneral dot_S1x2048x1024_S1024x50000_S1x2048x50000_2_0_01_1_n_n none H W (ix3 0 r v) : EReal) + (b _ : EReal)) rfl ?_
  rw [hb, add_zero, dot_apply]

/-- A word that compares equal to zero is zero. -/
theorem zero_of_eq (x : Ideal .f32) (h : FloatOps.cmpf .oeq x (FloatOps.ofBits .f32 0x00000000#32) = 1#1) : (x : EReal) = 0 := by
  have e : BitVec.ofBool (decide ((x : EReal) = Ideal.ofBits .f32 0x00000000#32)) = 1#1 := h
  rw [Ideal.ofBits_zero_f32] at e
  by_contra hx
  rw [decide_eq_false hx] at e
  exact absurd e (by decide)

end Cert.ReferenceIdeal.Take

end
-- ==== Proof.Algebraic.lean ====
/- The kernel and the reference compute one value: the gathered rows are the rows taken, and the products are the sums the
   reference adds a zero bias to. -/
module

public import proofs.«01_k».proof.Defs
public import proofs.«01_k».proof.Proof.KernelIdeal.Run
public import proofs.«01_k».proof.Proof.KernelIdeal.Entry
public import proofs.«01_k».proof.Proof.ReferenceValue

@[expose] public section

set_option maxRecDepth 16384

noncomputable section

namespace Cert.Algebraic

open Cert.KernelIdeal Cert.KernelIdeal.Gen Cert.KernelIdeal.Gather
open Idealize.ShloMosaic TcCoe
open Idealize.ShloMosaic.ValueIdx (ix1 ix2 ix3 eq_ix3)
open Idealize.SL.Sem

variable (m : (ℓ : Loc nD τ sig) → Buf (Elt Ideal) ℓ) (hV : ∀ c, InRange (V m c main_v0)) (c : Dev nD)

/-- The flat index list's word `r` is the argument's. -/
theorem word_entry (r : Fin 2048) (h : r.val < n₀) :
    word (V m c main_v0) ⟨r.val, h⟩ = (m ((c : Thread nD τ).loc main_arg0) (ix2 0 r) : BitVec 32) := by
  unfold word
  rw [entry_words]
  refine (shapeCast_dropUnit_apply ![2048] _ _ _).trans (congrArg (m ((c : Thread nD τ).loc main_arg0)) ?_)
  funext a
  match a with
  | ⟨0, _⟩ => rfl
  | ⟨1, _⟩ => rfl

theorem gathered_apply (r : Fin 2048) (k : Fin 1024) (h : (m ((c : Thread nD τ).loc main_arg0) (ix2 0 r) : BitVec 32).toNat < 50000) :
    gathered (V m c main_v0) (hV c) (V m c main_arg1) (ix2 r k)
      = m ((c : Thread nD τ).loc main_arg1) (ix2 ⟨(m ((c : Thread nD τ).loc main_arg0) (ix2 0 r) : BitVec 32).toNat, h⟩ k) := by
  unfold gathered
  rw [entry_arg m c main_arg1 (by decide)]
  refine congrArg (m ((c : Thread nD τ).loc main_arg1)) (congrArg (fun i => ix2 i k) (Fin.ext ?_))
  exact congrArg BitVec.toNat (word_entry m c r _)

section Equal
variable (hix : ∀ i, (m ((c : Thread nD τ).loc main_arg0) i : BitVec 32).toNat < 50000)
include hix

theorem rows_eq : ReferenceIdeal.Take.taken (F := Ideal) (m ((c : Thread nD τ).loc main_arg0)) (m ((c : Thread nD τ).loc main_arg1))
    = shapeCast S1x2048x1024 (gathered (V m c main_v0) (hV c) (V m c main_arg1)) shapeCasts_S2048x1024_S1x2048x1024 := by
  funext y
  obtain ⟨r, k, rfl⟩ : ∃ r k, y = ix3 (0 : Fin 1) r k := ⟨y 1, y 2, (eq_ix3 y).trans (congrArg (fun i => ix3 i (y 1) (y 2)) (Subsingleton.elim (α := Fin 1) _ _))⟩
  refine (ReferenceIdeal.Take.taken_apply _ _ hix r k).trans ?_
  refine Eq.symm ((shapeCast_addUnit_apply ![2048, 1024] _ _ _).trans ?_)
  refine Eq.trans (congrArg (gathered (V m c main_v0) (hV c) (V m c main_arg1)) ?_) (gathered_apply m hV c r k (hix _))
  funext a
  match a with
  | ⟨0, _⟩ => rfl
  | ⟨1, _⟩ => rfl

theorem logits_eq (b : FVec Ideal ReferenceIdeal.S50000 .f32) (hb : ∀ j, (b j : EReal) = 0) :
    ReferenceIdeal.Take.scores (ReferenceIdeal.Take.taken (F := Ideal) (m ((c : Thread nD τ).loc main_arg0)) (m ((c : Thread nD τ).loc main_arg1)))
        (m ((c : Thread nD τ).loc main_arg2)) b
      = shapeCast S1x2048x50000 (logits (V m) hV c) shapeCasts_S2048x50000_S1x2048x50000 := by
  funext y
  obtain ⟨r, v, rfl⟩ : ∃ r v, y = ix3 (0 : Fin 1) r v := ⟨y 1, y 2, (eq_ix3 y).trans (congrArg (fun i => ix3 i (y 1) (y 2)) (Subsingleton.elim (α := Fin 1) _ _))⟩
  refine (ReferenceIdeal.Take.scores_apply _ _ b hb r v).trans ?_
  refine Eq.symm ((shapeCast_addUnit_apply ![2048, 50000] _ _ _).trans ?_)
  unfold logits
  refine Finset.sum_congr rfl fun k _ => ?_
  refine congrArg₂ (· * ·) ?_ ?_
  · exact (gathered_apply m hV c r k (hix _)).trans (ReferenceIdeal.Take.taken_apply (F := Ideal) _ (m ((c : Thread nD τ).loc main_arg1)) hix r k).symm
  · exact congrFun (entry_arg m c main_arg2 (by decide)) (ix2 k v)

end Equal

/-- Both programs end with the kernel's rows and logits. -/
theorem algebraic : Cert.algebraic_KernelIdeal_ReferenceIdeal_pre_in_range_no_bias := fun m g m' g' hpre hargs => by
  have hin : ∀ (c : Dev nD) i, (m ((c : Thread nD τ).loc main_arg0) i : BitVec 32).toNat < 50000 := fun c i => (Range.in_range_no_bias _ _ _ _ (hpre c)).1 i
  have hb : ∀ (c : Dev nD) j, (show EReal from m ((c : Thread nD τ).loc main_arg3) j) = 0 := fun c j =>
    ReferenceIdeal.Take.zero_of_eq _ ((Range.in_range_no_bias _ _ _ _ (hpre c)).2 j)
  have hV : ∀ c, InRange (V m c main_v0) := inRange_entry m hin
  refine ⟨fun c => shapeCast S1x2048x1024 (gathered (V m c main_v0) (hV c) (V m c main_arg1)) shapeCasts_S2048x1024_S1x2048x1024,
    fun c => shapeCast S1x2048x50000 (logits (V m) hV c) shapeCasts_S2048x50000_S1x2048x50000, Gather.run m g hV, ?_⟩
  refine (θ_run _ _ _).mono (fun r h c => ?_) (ReferenceIdeal.Value.run (F := Ideal) m' g')
  obtain ⟨h0, h1, hkeep⟩ := h c
  obtain ⟨e0, e1, e2, e3⟩ := hargs c
  refine ⟨h0.trans ?_, h1.trans ?_, hkeep⟩
  · rw [e0, e1]
    exact rows_eq m hV c (hin c)
  · rw [e0, e1, e2, e3]
    exact logits_eq m hV c (hin c) _ (hb c)

end Cert.Algebraic

end
-- ==== Proof.lean ====
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Cert.Pre_in_range_no_bias.Gen.facts, Cert.Frames.kernel, Cert.Frames.kernelIdeal, Cert.Frames.kernelIdeal_no_bias,
    Cert.Frames.referenceIdeal, Cert.Frames.referenceIdeal_no_bias, trivial, Cert.Algebraic.algebraic⟩

end Cert.Proof

end
